-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![8192, 512]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S8192x512 : Shape := ⟨2, ![8192, 512]⟩
abbrev S3 : Shape := ⟨1, ![3]⟩
abbrev S_ : Shape := ⟨0, ![]⟩
abbrev S1 : Shape := ⟨1, ![1]⟩
abbrev S1024x512 : Shape := ⟨2, ![1024, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x512, .bf16⟩
  | .hbm, ⟨1, _⟩ => ⟨S8192x512, .bf16⟩
  | .local _ .vmem, ⟨0, _⟩ => ⟨S2048x512, .bf16⟩
  | .local _ .vmem, ⟨1, _⟩ => ⟨S8192x512, .bf16⟩
  | _, _ => ⟨S2048x512, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_18 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_17 : BitVec 32 := 8#32
  let v33 : BitVec 32 := Scalar.muli v9 c8_i32_17
  let v34 : BitVec 32 := Scalar.addi c0_i32_18 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v35 : BitVec 32 := Scalar.muli v5 c4_i32_19
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v37 : BitVec 32 := Scalar.muli v8 c1_i32_20
  let v38 : BitVec 32 := Scalar.addi v36 v37
  v38.toNat
def k0_dev2 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v39 : BitVec 32 := Scalar.muli v2 c8_i32_22
  let v40 : BitVec 32 := Scalar.addi c0_i32_23 v39
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v41 : BitVec 32 := Scalar.muli v5 c4_i32_24
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_25 : BitVec 32 := 1#32
  let v43 : BitVec 32 := Scalar.muli v20 c1_i32_25
  let v44 : BitVec 32 := Scalar.addi v42 v43
  v44.toNat
def k0_dev3 (d0 : Dev nD) : Nat :=
  let c0_i32_28 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_27 : BitVec 32 := 8#32
  let v45 : BitVec 32 := Scalar.muli v2 c8_i32_27
  let v46 : BitVec 32 := Scalar.addi c0_i32_28 v45
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_29 : BitVec 32 := 4#32
  let v47 : BitVec 32 := Scalar.muli v5 c4_i32_29
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.subi v8 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_30 : BitVec 32 := 1#32
  let v49 : BitVec 32 := Scalar.muli v31 c1_i32_30
  let v50 : BitVec 32 := Scalar.addi v48 v49
  v50.toNat
def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2048_i32 : BitVec 32 := 2048#32
  let v53 : BitVec 32 := Scalar.muli v8 c2048_i32
  let v54 : Index := Scalar.indexCast v53
  let c0_32 : Index := 0#32
  ![v54.toNat, 0]
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_33 : BitVec 32 := 3#32
  let v56 : BitVec 1 := Scalar.cmpi .slt v8 c3_i32_33
  let c0_i32_34 : BitVec 32 := 0#32
  let v57 : BitVec 1 := Scalar.cmpi .sge v8 c0_i32_34
  let v58 : BitVec 1 := Scalar.andi v56 v57
  let v59 : BitVec 32 := Scalar.extui v58
  let c0_i32_35 : BitVec 32 := 0#32
  let v60 : BitVec 1 := Scalar.cmpi .ne v59 c0_i32_35
  v60

def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2048_i32_163 : BitVec 32 := 2048#32
  let v255 : BitVec 32 := Scalar.muli v8 c2048_i32_163
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_164 : BitVec 32 := 1024#32
  let v256 : BitVec 32 := Scalar.muli v2 c1024_i32_164
  let v257 : BitVec 32 := Scalar.addi v255 v256
  let c0_i32_171 : BitVec 32 := 0#32
  ![v257.toNat, 0]
def k0_off3 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v254 : BitVec 32 := Scalar.muli v2 c1024_i32
  let c0_i32_172 : BitVec 32 := 0#32
  ![v254.toNat, 0]
def k0_dev4 (d0 : Dev nD) : Nat :=
  let c0_i32_168 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_167 : BitVec 32 := 8#32
  let v258 : BitVec 32 := Scalar.muli v2 c8_i32_167
  let v259 : BitVec 32 := Scalar.addi c0_i32_168 v258
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_169 : BitVec 32 := 4#32
  let v260 : BitVec 32 := Scalar.muli v5 c4_i32_169
  let v261 : BitVec 32 := Scalar.addi v259 v260
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_170 : BitVec 32 := 1#32
  let v262 : BitVec 32 := Scalar.muli v20 c1_i32_170
  let v263 : BitVec 32 := Scalar.addi v261 v262
  v263.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v61 : BitVec 1 := Scalar.cmpi .sge v8 c1_i32_36
  let c3_i32_37 : BitVec 32 := 3#32
  let v62 : BitVec 32 := Scalar.subi c3_i32_37 v8
  let c0_i32_38 : BitVec 32 := 0#32
  let v63 : BitVec 1 := Scalar.cmpi .sge v62 c0_i32_38
  let v64 : BitVec 1 := Scalar.andi v61 v63
  let v65 : BitVec 32 := Scalar.extui v64
  let c0_i32_39 : BitVec 32 := 0#32
  let v66 : BitVec 1 := Scalar.cmpi .ne v65 c0_i32_39
  v66

def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2048_i32_163 : BitVec 32 := 2048#32
  let v255 : BitVec 32 := Scalar.muli v8 c2048_i32_163
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_164 : BitVec 32 := 1024#32
  let v256 : BitVec 32 := Scalar.muli v2 c1024_i32_164
  let v257 : BitVec 32 := Scalar.addi v255 v256
  let c0_i32_171 : BitVec 32 := 0#32
  ![v257.toNat, 0]
def k0_off5 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v254 : BitVec 32 := Scalar.muli v2 c1024_i32
  let c0_i32_172 : BitVec 32 := 0#32
  ![v254.toNat, 0]
def k0_dev5 (d0 : Dev nD) : Nat :=
  let c0_i32_168 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_167 : BitVec 32 := 8#32
  let v258 : BitVec 32 := Scalar.muli v2 c8_i32_167
  let v259 : BitVec 32 := Scalar.addi c0_i32_168 v258
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_169 : BitVec 32 := 4#32
  let v260 : BitVec 32 := Scalar.muli v5 c4_i32_169
  let v261 : BitVec 32 := Scalar.addi v259 v260
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.subi v8 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_170 : BitVec 32 := 1#32
  let v262 : BitVec 32 := Scalar.muli v31 c1_i32_170
  let v263 : BitVec 32 := Scalar.addi v261 v262
  v263.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v67 : BitVec 1 := Scalar.cmpi .sge v8 c1_i32_40
  let c1_i32_41 : BitVec 32 := 1#32
  let v68 : BitVec 32 := Scalar.subi v8 c1_i32_41
  let c0_i32_42 : BitVec 32 := 0#32
  let v69 : BitVec 1 := Scalar.cmpi .sge v68 c0_i32_42
  let v70 : BitVec 1 := Scalar.andi v67 v69
  let v71 : BitVec 32 := Scalar.extui v70
  let c0_i32_43 : BitVec 32 := 0#32
  let v72 : BitVec 1 := Scalar.cmpi .ne v71 c0_i32_43
  v72

def k0_off6 (d0 : Dev nD) : Fin 2 → Nat :=
  let c3_i32_166 : BitVec 32 := 3#32
  let c0_i32_165 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.subi v8 c1_i32_163
  let c0_i32_164 : BitVec 32 := 0#32
  let v255 : BitVec 32 := Scalar.subi v254 c0_i32_164
  let v256 : BitVec 32 := Scalar.maxsi c0_i32_165 v255
  let v257 : BitVec 32 := Scalar.minsi c3_i32_166 v256
  let c2048_i32_168 : BitVec 32 := 2048#32
  let v261 : BitVec 32 := Scalar.muli v257 c2048_i32_168
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_169 : BitVec 32 := 1024#32
  let v262 : BitVec 32 := Scalar.muli v2 c1024_i32_169
  let v263 : BitVec 32 := Scalar.addi v261 v262
  let c0_i32_176 : BitVec 32 := 0#32
  ![v263.toNat, 0]
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_44 : BitVec 32 := 3#32
  let v73 : BitVec 1 := Scalar.cmpi .slt v8 c3_i32_44
  let c1_i32_45 : BitVec 32 := 1#32
  let v74 : BitVec 1 := Scalar.cmpi .sge v8 c1_i32_45
  let v75 : BitVec 1 := Scalar.andi v73 v74
  let v76 : BitVec 32 := Scalar.extui v75
  let c0_i32_46 : BitVec 32 := 0#32
  let v77 : BitVec 1 := Scalar.cmpi .ne v76 c0_i32_46
  v77

def k0_off7 (d0 : Dev nD) : Fin 2 → Nat :=
  let c3_i32_165 : BitVec 32 := 3#32
  let c0_i32_164 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.subi v8 c1_i32_163
  let v255 : BitVec 32 := Scalar.maxsi c0_i32_164 v254
  let v256 : BitVec 32 := Scalar.minsi c3_i32_165 v255
  let c2048_i32_167 : BitVec 32 := 2048#32
  let v260 : BitVec 32 := Scalar.muli v256 c2048_i32_167
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_168 : BitVec 32 := 1024#32
  let v261 : BitVec 32 := Scalar.muli v2 c1024_i32_168
  let v262 : BitVec 32 := Scalar.addi v260 v261
  let c0_i32_175 : BitVec 32 := 0#32
  ![v262.toNat, 0]
def k0_dev6 (d0 : Dev nD) : Nat :=
  let c0_i32_172 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_171 : BitVec 32 := 8#32
  let v263 : BitVec 32 := Scalar.muli v2 c8_i32_171
  let v264 : BitVec 32 := Scalar.addi c0_i32_172 v263
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_173 : BitVec 32 := 4#32
  let v265 : BitVec 32 := Scalar.muli v5 c4_i32_173
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_174 : BitVec 32 := 1#32
  let v267 : BitVec 32 := Scalar.muli v20 c1_i32_174
  let v268 : BitVec 32 := Scalar.addi v266 v267
  v268.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v78 : BitVec 1 := Scalar.cmpi .sge v8 c1_i32_47
  let c1_i32_48 : BitVec 32 := 1#32
  let v79 : BitVec 32 := Scalar.subi v8 c1_i32_48
  let c0_i32_49 : BitVec 32 := 0#32
  let v80 : BitVec 1 := Scalar.cmpi .sge v79 c0_i32_49
  let v81 : BitVec 1 := Scalar.andi v78 v80
  let v82 : BitVec 32 := Scalar.extui v81
  let c0_i32_50 : BitVec 32 := 0#32
  let v83 : BitVec 1 := Scalar.cmpi .ne v82 c0_i32_50
  v83

def k0_off8 (d0 : Dev nD) : Fin 2 → Nat :=
  let c3_i32_166 : BitVec 32 := 3#32
  let c0_i32_165 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.subi v8 c1_i32_163
  let c0_i32_164 : BitVec 32 := 0#32
  let v255 : BitVec 32 := Scalar.subi v254 c0_i32_164
  let v256 : BitVec 32 := Scalar.maxsi c0_i32_165 v255
  let v257 : BitVec 32 := Scalar.minsi c3_i32_166 v256
  let c2048_i32_168 : BitVec 32 := 2048#32
  let v261 : BitVec 32 := Scalar.muli v257 c2048_i32_168
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_169 : BitVec 32 := 1024#32
  let v262 : BitVec 32 := Scalar.muli v2 c1024_i32_169
  let v263 : BitVec 32 := Scalar.addi v261 v262
  let c0_i32_176 : BitVec 32 := 0#32
  ![v263.toNat, 0]
def k0_dev7 (d0 : Dev nD) : Nat :=
  let c0_i32_173 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_172 : BitVec 32 := 8#32
  let v264 : BitVec 32 := Scalar.muli v9 c8_i32_172
  let v265 : BitVec 32 := Scalar.addi c0_i32_173 v264
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_174 : BitVec 32 := 4#32
  let v266 : BitVec 32 := Scalar.muli v5 c4_i32_174
  let v267 : BitVec 32 := Scalar.addi v265 v266
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_175 : BitVec 32 := 1#32
  let v268 : BitVec 32 := Scalar.muli v8 c1_i32_175
  let v269 : BitVec 32 := Scalar.addi v267 v268
  v269.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_51 : BitVec 32 := 2#32
  let v84 : BitVec 1 := Scalar.cmpi .sle v8 c2_i32_51
  let c2_i32_52 : BitVec 32 := 2#32
  let v85 : BitVec 32 := Scalar.subi c2_i32_52 v8
  let c0_i32_53 : BitVec 32 := 0#32
  let v86 : BitVec 1 := Scalar.cmpi .sge v85 c0_i32_53
  let v87 : BitVec 1 := Scalar.andi v84 v86
  let v88 : BitVec 32 := Scalar.extui v87
  let c0_i32_54 : BitVec 32 := 0#32
  let v89 : BitVec 1 := Scalar.cmpi .ne v88 c0_i32_54
  v89

def k0_off9 (d0 : Dev nD) : Fin 2 → Nat :=
  let c3_i32_166 : BitVec 32 := 3#32
  let c0_i32_165 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.addi v8 c1_i32_163
  let c0_i32_164 : BitVec 32 := 0#32
  let v255 : BitVec 32 := Scalar.addi v254 c0_i32_164
  let v256 : BitVec 32 := Scalar.maxsi c0_i32_165 v255
  let v257 : BitVec 32 := Scalar.minsi c3_i32_166 v256
  let c2048_i32_168 : BitVec 32 := 2048#32
  let v261 : BitVec 32 := Scalar.muli v257 c2048_i32_168
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_169 : BitVec 32 := 1024#32
  let v262 : BitVec 32 := Scalar.muli v2 c1024_i32_169
  let v263 : BitVec 32 := Scalar.addi v261 v262
  let c0_i32_176 : BitVec 32 := 0#32
  ![v263.toNat, 0]
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v90 : BitVec 1 := Scalar.cmpi .sge v8 c1_i32_55
  let c3_i32_56 : BitVec 32 := 3#32
  let v91 : BitVec 32 := Scalar.subi c3_i32_56 v8
  let c1_i32_57 : BitVec 32 := 1#32
  let v92 : BitVec 1 := Scalar.cmpi .sge v91 c1_i32_57
  let v93 : BitVec 1 := Scalar.andi v90 v92
  let v94 : BitVec 32 := Scalar.extui v93
  let c0_i32_58 : BitVec 32 := 0#32
  let v95 : BitVec 1 := Scalar.cmpi .ne v94 c0_i32_58
  v95

def k0_off10 (d0 : Dev nD) : Fin 2 → Nat :=
  let c3_i32_165 : BitVec 32 := 3#32
  let c0_i32_164 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.addi v8 c1_i32_163
  let v255 : BitVec 32 := Scalar.maxsi c0_i32_164 v254
  let v256 : BitVec 32 := Scalar.minsi c3_i32_165 v255
  let c2048_i32_167 : BitVec 32 := 2048#32
  let v260 : BitVec 32 := Scalar.muli v256 c2048_i32_167
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_168 : BitVec 32 := 1024#32
  let v261 : BitVec 32 := Scalar.muli v2 c1024_i32_168
  let v262 : BitVec 32 := Scalar.addi v260 v261
  let c0_i32_175 : BitVec 32 := 0#32
  ![v262.toNat, 0]
def k0_dev8 (d0 : Dev nD) : Nat :=
  let c0_i32_172 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_171 : BitVec 32 := 8#32
  let v263 : BitVec 32 := Scalar.muli v2 c8_i32_171
  let v264 : BitVec 32 := Scalar.addi c0_i32_172 v263
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_173 : BitVec 32 := 4#32
  let v265 : BitVec 32 := Scalar.muli v5 c4_i32_173
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.subi v8 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_174 : BitVec 32 := 1#32
  let v267 : BitVec 32 := Scalar.muli v31 c1_i32_174
  let v268 : BitVec 32 := Scalar.addi v266 v267
  v268.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_59 : BitVec 32 := 2#32
  let v96 : BitVec 1 := Scalar.cmpi .sle v8 c2_i32_59
  let c2_i32_60 : BitVec 32 := 2#32
  let v97 : BitVec 32 := Scalar.subi c2_i32_60 v8
  let c0_i32_61 : BitVec 32 := 0#32
  let v98 : BitVec 1 := Scalar.cmpi .sge v97 c0_i32_61
  let v99 : BitVec 1 := Scalar.andi v96 v98
  let v100 : BitVec 32 := Scalar.extui v99
  let c0_i32_62 : BitVec 32 := 0#32
  let v101 : BitVec 1 := Scalar.cmpi .ne v100 c0_i32_62
  v101

def k0_off11 (d0 : Dev nD) : Fin 2 → Nat :=
  let c3_i32_166 : BitVec 32 := 3#32
  let c0_i32_165 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.addi v8 c1_i32_163
  let c0_i32_164 : BitVec 32 := 0#32
  let v255 : BitVec 32 := Scalar.addi v254 c0_i32_164
  let v256 : BitVec 32 := Scalar.maxsi c0_i32_165 v255
  let v257 : BitVec 32 := Scalar.minsi c3_i32_166 v256
  let c2048_i32_168 : BitVec 32 := 2048#32
  let v261 : BitVec 32 := Scalar.muli v257 c2048_i32_168
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_169 : BitVec 32 := 1024#32
  let v262 : BitVec 32 := Scalar.muli v2 c1024_i32_169
  let v263 : BitVec 32 := Scalar.addi v261 v262
  let c0_i32_176 : BitVec 32 := 0#32
  ![v263.toNat, 0]
def k0_dev9 (d0 : Dev nD) : Nat :=
  let c0_i32_173 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_172 : BitVec 32 := 8#32
  let v264 : BitVec 32 := Scalar.muli v9 c8_i32_172
  let v265 : BitVec 32 := Scalar.addi c0_i32_173 v264
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_174 : BitVec 32 := 4#32
  let v266 : BitVec 32 := Scalar.muli v5 c4_i32_174
  let v267 : BitVec 32 := Scalar.addi v265 v266
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_175 : BitVec 32 := 1#32
  let v268 : BitVec 32 := Scalar.muli v8 c1_i32_175
  let v269 : BitVec 32 := Scalar.addi v267 v268
  v269.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v102 : BitVec 1 := Scalar.cmpi .sge v8 c1_i32_63
  let c1_i32_64 : BitVec 32 := 1#32
  let v103 : BitVec 32 := Scalar.subi v8 c1_i32_64
  let c1_i32_65 : BitVec 32 := 1#32
  let v104 : BitVec 1 := Scalar.cmpi .sge v103 c1_i32_65
  let v105 : BitVec 1 := Scalar.andi v102 v104
  let v106 : BitVec 32 := Scalar.extui v105
  let c0_i32_66 : BitVec 32 := 0#32
  let v107 : BitVec 1 := Scalar.cmpi .ne v106 c0_i32_66
  v107

def k0_off12 (d0 : Dev nD) : Fin 2 → Nat :=
  let c3_i32_166 : BitVec 32 := 3#32
  let c0_i32_165 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.subi v8 c1_i32_163
  let c1_i32_164 : BitVec 32 := 1#32
  let v255 : BitVec 32 := Scalar.subi v254 c1_i32_164
  let v256 : BitVec 32 := Scalar.maxsi c0_i32_165 v255
  let v257 : BitVec 32 := Scalar.minsi c3_i32_166 v256
  let c2048_i32_168 : BitVec 32 := 2048#32
  let v261 : BitVec 32 := Scalar.muli v257 c2048_i32_168
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_169 : BitVec 32 := 1024#32
  let v262 : BitVec 32 := Scalar.muli v2 c1024_i32_169
  let v263 : BitVec 32 := Scalar.addi v261 v262
  let c0_i32_176 : BitVec 32 := 0#32
  ![v263.toNat, 0]
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_67 : BitVec 32 := 3#32
  let v108 : BitVec 1 := Scalar.cmpi .slt v8 c3_i32_67
  let c2_i32_68 : BitVec 32 := 2#32
  let v109 : BitVec 1 := Scalar.cmpi .sge v8 c2_i32_68
  let v110 : BitVec 1 := Scalar.andi v108 v109
  let v111 : BitVec 32 := Scalar.extui v110
  let c0_i32_69 : BitVec 32 := 0#32
  let v112 : BitVec 1 := Scalar.cmpi .ne v111 c0_i32_69
  v112

def k0_off13 (d0 : Dev nD) : Fin 2 → Nat :=
  let c3_i32_165 : BitVec 32 := 3#32
  let c0_i32_164 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_163 : BitVec 32 := 2#32
  let v254 : BitVec 32 := Scalar.subi v8 c2_i32_163
  let v255 : BitVec 32 := Scalar.maxsi c0_i32_164 v254
  let v256 : BitVec 32 := Scalar.minsi c3_i32_165 v255
  let c2048_i32_167 : BitVec 32 := 2048#32
  let v260 : BitVec 32 := Scalar.muli v256 c2048_i32_167
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_168 : BitVec 32 := 1024#32
  let v261 : BitVec 32 := Scalar.muli v2 c1024_i32_168
  let v262 : BitVec 32 := Scalar.addi v260 v261
  let c0_i32_175 : BitVec 32 := 0#32
  ![v262.toNat, 0]
def k0_dev10 (d0 : Dev nD) : Nat :=
  let c0_i32_172 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_171 : BitVec 32 := 8#32
  let v263 : BitVec 32 := Scalar.muli v2 c8_i32_171
  let v264 : BitVec 32 := Scalar.addi c0_i32_172 v263
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_173 : BitVec 32 := 4#32
  let v265 : BitVec 32 := Scalar.muli v5 c4_i32_173
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_174 : BitVec 32 := 1#32
  let v267 : BitVec 32 := Scalar.muli v20 c1_i32_174
  let v268 : BitVec 32 := Scalar.addi v266 v267
  v268.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_70 : BitVec 32 := 1#32
  let v113 : BitVec 1 := Scalar.cmpi .sge v8 c1_i32_70
  let c1_i32_71 : BitVec 32 := 1#32
  let v114 : BitVec 32 := Scalar.subi v8 c1_i32_71
  let c1_i32_72 : BitVec 32 := 1#32
  let v115 : BitVec 1 := Scalar.cmpi .sge v114 c1_i32_72
  let v116 : BitVec 1 := Scalar.andi v113 v115
  let v117 : BitVec 32 := Scalar.extui v116
  let c0_i32_73 : BitVec 32 := 0#32
  let v118 : BitVec 1 := Scalar.cmpi .ne v117 c0_i32_73
  v118

def k0_off14 (d0 : Dev nD) : Fin 2 → Nat :=
  let c3_i32_166 : BitVec 32 := 3#32
  let c0_i32_165 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.subi v8 c1_i32_163
  let c1_i32_164 : BitVec 32 := 1#32
  let v255 : BitVec 32 := Scalar.subi v254 c1_i32_164
  let v256 : BitVec 32 := Scalar.maxsi c0_i32_165 v255
  let v257 : BitVec 32 := Scalar.minsi c3_i32_166 v256
  let c2048_i32_168 : BitVec 32 := 2048#32
  let v261 : BitVec 32 := Scalar.muli v257 c2048_i32_168
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_169 : BitVec 32 := 1024#32
  let v262 : BitVec 32 := Scalar.muli v2 c1024_i32_169
  let v263 : BitVec 32 := Scalar.addi v261 v262
  let c0_i32_176 : BitVec 32 := 0#32
  ![v263.toNat, 0]
def k0_dev11 (d0 : Dev nD) : Nat :=
  let c0_i32_173 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_172 : BitVec 32 := 8#32
  let v264 : BitVec 32 := Scalar.muli v9 c8_i32_172
  let v265 : BitVec 32 := Scalar.addi c0_i32_173 v264
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_174 : BitVec 32 := 4#32
  let v266 : BitVec 32 := Scalar.muli v5 c4_i32_174
  let v267 : BitVec 32 := Scalar.addi v265 v266
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_175 : BitVec 32 := 1#32
  let v268 : BitVec 32 := Scalar.muli v8 c1_i32_175
  let v269 : BitVec 32 := Scalar.addi v267 v268
  v269.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_74 : BitVec 32 := 2#32
  let v119 : BitVec 1 := Scalar.cmpi .sle v8 c2_i32_74
  let c2_i32_75 : BitVec 32 := 2#32
  let v120 : BitVec 32 := Scalar.subi c2_i32_75 v8
  let c1_i32_76 : BitVec 32 := 1#32
  let v121 : BitVec 1 := Scalar.cmpi .sge v120 c1_i32_76
  let v122 : BitVec 1 := Scalar.andi v119 v121
  let v123 : BitVec 32 := Scalar.extui v122
  let c0_i32_77 : BitVec 32 := 0#32
  let v124 : BitVec 1 := Scalar.cmpi .ne v123 c0_i32_77
  v124

def k0_off15 (d0 : Dev nD) : Fin 2 → Nat :=
  let c3_i32_166 : BitVec 32 := 3#32
  let c0_i32_165 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.addi v8 c1_i32_163
  let c1_i32_164 : BitVec 32 := 1#32
  let v255 : BitVec 32 := Scalar.addi v254 c1_i32_164
  let v256 : BitVec 32 := Scalar.maxsi c0_i32_165 v255
  let v257 : BitVec 32 := Scalar.minsi c3_i32_166 v256
  let c2048_i32_168 : BitVec 32 := 2048#32
  let v261 : BitVec 32 := Scalar.muli v257 c2048_i32_168
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_169 : BitVec 32 := 1024#32
  let v262 : BitVec 32 := Scalar.muli v2 c1024_i32_169
  let v263 : BitVec 32 := Scalar.addi v261 v262
  let c0_i32_176 : BitVec 32 := 0#32
  ![v263.toNat, 0]
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v125 : BitVec 1 := Scalar.cmpi .sge v8 c1_i32_78
  let c3_i32_79 : BitVec 32 := 3#32
  let v126 : BitVec 32 := Scalar.subi c3_i32_79 v8
  let c2_i32_80 : BitVec 32 := 2#32
  let v127 : BitVec 1 := Scalar.cmpi .sge v126 c2_i32_80
  let v128 : BitVec 1 := Scalar.andi v125 v127
  let v129 : BitVec 32 := Scalar.extui v128
  let c0_i32_81 : BitVec 32 := 0#32
  let v130 : BitVec 1 := Scalar.cmpi .ne v129 c0_i32_81
  v130

def k0_off16 (d0 : Dev nD) : Fin 2 → Nat :=
  let c3_i32_165 : BitVec 32 := 3#32
  let c0_i32_164 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_163 : BitVec 32 := 2#32
  let v254 : BitVec 32 := Scalar.addi v8 c2_i32_163
  let v255 : BitVec 32 := Scalar.maxsi c0_i32_164 v254
  let v256 : BitVec 32 := Scalar.minsi c3_i32_165 v255
  let c2048_i32_167 : BitVec 32 := 2048#32
  let v260 : BitVec 32 := Scalar.muli v256 c2048_i32_167
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_168 : BitVec 32 := 1024#32
  let v261 : BitVec 32 := Scalar.muli v2 c1024_i32_168
  let v262 : BitVec 32 := Scalar.addi v260 v261
  let c0_i32_175 : BitVec 32 := 0#32
  ![v262.toNat, 0]
def k0_dev12 (d0 : Dev nD) : Nat :=
  let c0_i32_172 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_171 : BitVec 32 := 8#32
  let v263 : BitVec 32 := Scalar.muli v2 c8_i32_171
  let v264 : BitVec 32 := Scalar.addi c0_i32_172 v263
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_173 : BitVec 32 := 4#32
  let v265 : BitVec 32 := Scalar.muli v5 c4_i32_173
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.subi v8 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_174 : BitVec 32 := 1#32
  let v267 : BitVec 32 := Scalar.muli v31 c1_i32_174
  let v268 : BitVec 32 := Scalar.addi v266 v267
  v268.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_82 : BitVec 32 := 2#32
  let v131 : BitVec 1 := Scalar.cmpi .sle v8 c2_i32_82
  let c2_i32_83 : BitVec 32 := 2#32
  let v132 : BitVec 32 := Scalar.subi c2_i32_83 v8
  let c1_i32_84 : BitVec 32 := 1#32
  let v133 : BitVec 1 := Scalar.cmpi .sge v132 c1_i32_84
  let v134 : BitVec 1 := Scalar.andi v131 v133
  let v135 : BitVec 32 := Scalar.extui v134
  let c0_i32_85 : BitVec 32 := 0#32
  let v136 : BitVec 1 := Scalar.cmpi .ne v135 c0_i32_85
  v136

def k0_off17 (d0 : Dev nD) : Fin 2 → Nat :=
  let c3_i32_166 : BitVec 32 := 3#32
  let c0_i32_165 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.addi v8 c1_i32_163
  let c1_i32_164 : BitVec 32 := 1#32
  let v255 : BitVec 32 := Scalar.addi v254 c1_i32_164
  let v256 : BitVec 32 := Scalar.maxsi c0_i32_165 v255
  let v257 : BitVec 32 := Scalar.minsi c3_i32_166 v256
  let c2048_i32_168 : BitVec 32 := 2048#32
  let v261 : BitVec 32 := Scalar.muli v257 c2048_i32_168
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_169 : BitVec 32 := 1024#32
  let v262 : BitVec 32 := Scalar.muli v2 c1024_i32_169
  let v263 : BitVec 32 := Scalar.addi v261 v262
  let c0_i32_176 : BitVec 32 := 0#32
  ![v263.toNat, 0]
def k0_dev13 (d0 : Dev nD) : Nat :=
  let c0_i32_173 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_172 : BitVec 32 := 8#32
  let v264 : BitVec 32 := Scalar.muli v9 c8_i32_172
  let v265 : BitVec 32 := Scalar.addi c0_i32_173 v264
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_174 : BitVec 32 := 4#32
  let v266 : BitVec 32 := Scalar.muli v5 c4_i32_174
  let v267 : BitVec 32 := Scalar.addi v265 v266
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_175 : BitVec 32 := 1#32
  let v268 : BitVec 32 := Scalar.muli v8 c1_i32_175
  let v269 : BitVec 32 := Scalar.addi v267 v268
  v269.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_86 : BitVec 32 := 1#32
  let v137 : BitVec 1 := Scalar.cmpi .sge v8 c1_i32_86
  let c1_i32_87 : BitVec 32 := 1#32
  let v138 : BitVec 32 := Scalar.subi v8 c1_i32_87
  let c2_i32_88 : BitVec 32 := 2#32
  let v139 : BitVec 1 := Scalar.cmpi .sge v138 c2_i32_88
  let v140 : BitVec 1 := Scalar.andi v137 v139
  let v141 : BitVec 32 := Scalar.extui v140
  let c0_i32_89 : BitVec 32 := 0#32
  let v142 : BitVec 1 := Scalar.cmpi .ne v141 c0_i32_89
  v142

def k0_off18 (d0 : Dev nD) : Fin 2 → Nat :=
  let c3_i32_166 : BitVec 32 := 3#32
  let c0_i32_165 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.subi v8 c1_i32_163
  let c2_i32_164 : BitVec 32 := 2#32
  let v255 : BitVec 32 := Scalar.subi v254 c2_i32_164
  let v256 : BitVec 32 := Scalar.maxsi c0_i32_165 v255
  let v257 : BitVec 32 := Scalar.minsi c3_i32_166 v256
  let c2048_i32_168 : BitVec 32 := 2048#32
  let v261 : BitVec 32 := Scalar.muli v257 c2048_i32_168
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_169 : BitVec 32 := 1024#32
  let v262 : BitVec 32 := Scalar.muli v2 c1024_i32_169
  let v263 : BitVec 32 := Scalar.addi v261 v262
  let c0_i32_176 : BitVec 32 := 0#32
  ![v263.toNat, 0]
def k0_dev14 (d0 : Dev nD) : Nat :=
  let c0_i32_189 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_188 : BitVec 32 := 8#32
  let v284 : BitVec 32 := Scalar.muli v9 c8_i32_188
  let v285 : BitVec 32 := Scalar.addi c0_i32_189 v284
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_190 : BitVec 32 := 4#32
  let v286 : BitVec 32 := Scalar.muli v5 c4_i32_190
  let v287 : BitVec 32 := Scalar.addi v285 v286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_191 : BitVec 32 := 1#32
  let v288 : BitVec 32 := Scalar.muli v8 c1_i32_191
  let v289 : BitVec 32 := Scalar.addi v287 v288
  v289.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_90 : BitVec 32 := 2#32
  let v143 : BitVec 1 := Scalar.cmpi .sle v8 c2_i32_90
  let c2_i32_91 : BitVec 32 := 2#32
  let v144 : BitVec 32 := Scalar.subi c2_i32_91 v8
  let c2_i32_92 : BitVec 32 := 2#32
  let v145 : BitVec 1 := Scalar.cmpi .sge v144 c2_i32_92
  let v146 : BitVec 1 := Scalar.andi v143 v145
  let v147 : BitVec 32 := Scalar.extui v146
  let c0_i32_93 : BitVec 32 := 0#32
  let v148 : BitVec 1 := Scalar.cmpi .ne v147 c0_i32_93
  v148

def k0_off19 (d0 : Dev nD) : Fin 2 → Nat :=
  let c3_i32_166 : BitVec 32 := 3#32
  let c0_i32_165 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.addi v8 c1_i32_163
  let c2_i32_164 : BitVec 32 := 2#32
  let v255 : BitVec 32 := Scalar.addi v254 c2_i32_164
  let v256 : BitVec 32 := Scalar.maxsi c0_i32_165 v255
  let v257 : BitVec 32 := Scalar.minsi c3_i32_166 v256
  let c2048_i32_168 : BitVec 32 := 2048#32
  let v261 : BitVec 32 := Scalar.muli v257 c2048_i32_168
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_169 : BitVec 32 := 1024#32
  let v262 : BitVec 32 := Scalar.muli v2 c1024_i32_169
  let v263 : BitVec 32 := Scalar.addi v261 v262
  let c0_i32_176 : BitVec 32 := 0#32
  ![v263.toNat, 0]
def k0_dev15 (d0 : Dev nD) : Nat :=
  let c0_i32_189 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_188 : BitVec 32 := 8#32
  let v284 : BitVec 32 := Scalar.muli v9 c8_i32_188
  let v285 : BitVec 32 := Scalar.addi c0_i32_189 v284
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_190 : BitVec 32 := 4#32
  let v286 : BitVec 32 := Scalar.muli v5 c4_i32_190
  let v287 : BitVec 32 := Scalar.addi v285 v286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_191 : BitVec 32 := 1#32
  let v288 : BitVec 32 := Scalar.muli v8 c1_i32_191
  let v289 : BitVec 32 := Scalar.addi v287 v288
  v289.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v149 : BitVec 1 := Scalar.cmpi .sge v8 c1_i32_94
  let c1_i32_95 : BitVec 32 := 1#32
  let v150 : BitVec 32 := Scalar.subi v8 c1_i32_95
  let c0_i32_96 : BitVec 32 := 0#32
  let v151 : BitVec 1 := Scalar.cmpi .sge v150 c0_i32_96
  let v152 : BitVec 1 := Scalar.andi v149 v151
  let v153 : BitVec 32 := Scalar.extui v152
  let c0_i32_97 : BitVec 32 := 0#32
  let v154 : BitVec 1 := Scalar.cmpi .ne v153 c0_i32_97
  v154

def k0_off20 (d0 : Dev nD) : Fin 2 → Nat :=
  let c3_i32_166 : BitVec 32 := 3#32
  let c0_i32_165 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.subi v8 c1_i32_163
  let c0_i32_164 : BitVec 32 := 0#32
  let v255 : BitVec 32 := Scalar.subi v254 c0_i32_164
  let v256 : BitVec 32 := Scalar.maxsi c0_i32_165 v255
  let v257 : BitVec 32 := Scalar.minsi c3_i32_166 v256
  let c2048_i32_170 : BitVec 32 := 2048#32
  let v263 : BitVec 32 := Scalar.muli v257 c2048_i32_170
  let c1_i32_169 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v262 : BitVec 32 := Scalar.subi c1_i32_169 v2
  let c1024_i32_171 : BitVec 32 := 1024#32
  let v264 : BitVec 32 := Scalar.muli v262 c1024_i32_171
  let v265 : BitVec 32 := Scalar.addi v263 v264
  let c0_i32_178 : BitVec 32 := 0#32
  ![v265.toNat, 0]
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_98 : BitVec 32 := 2#32
  let v155 : BitVec 1 := Scalar.cmpi .sle v8 c2_i32_98
  let c2_i32_99 : BitVec 32 := 2#32
  let v156 : BitVec 32 := Scalar.subi c2_i32_99 v8
  let c0_i32_100 : BitVec 32 := 0#32
  let v157 : BitVec 1 := Scalar.cmpi .sge v156 c0_i32_100
  let v158 : BitVec 1 := Scalar.andi v155 v157
  let v159 : BitVec 32 := Scalar.extui v158
  let c0_i32_101 : BitVec 32 := 0#32
  let v160 : BitVec 1 := Scalar.cmpi .ne v159 c0_i32_101
  v160

def k0_off21 (d0 : Dev nD) : Fin 2 → Nat :=
  let c3_i32_166 : BitVec 32 := 3#32
  let c0_i32_165 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.addi v8 c1_i32_163
  let c0_i32_164 : BitVec 32 := 0#32
  let v255 : BitVec 32 := Scalar.addi v254 c0_i32_164
  let v256 : BitVec 32 := Scalar.maxsi c0_i32_165 v255
  let v257 : BitVec 32 := Scalar.minsi c3_i32_166 v256
  let c2048_i32_170 : BitVec 32 := 2048#32
  let v263 : BitVec 32 := Scalar.muli v257 c2048_i32_170
  let c1_i32_169 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v262 : BitVec 32 := Scalar.subi c1_i32_169 v2
  let c1024_i32_171 : BitVec 32 := 1024#32
  let v264 : BitVec 32 := Scalar.muli v262 c1024_i32_171
  let v265 : BitVec 32 := Scalar.addi v263 v264
  let c0_i32_178 : BitVec 32 := 0#32
  ![v265.toNat, 0]
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_102 : BitVec 32 := 1#32
  let v161 : BitVec 1 := Scalar.cmpi .sge v8 c1_i32_102
  let c1_i32_103 : BitVec 32 := 1#32
  let v162 : BitVec 32 := Scalar.subi v8 c1_i32_103
  let c1_i32_104 : BitVec 32 := 1#32
  let v163 : BitVec 1 := Scalar.cmpi .sge v162 c1_i32_104
  let v164 : BitVec 1 := Scalar.andi v161 v163
  let v165 : BitVec 32 := Scalar.extui v164
  let c0_i32_105 : BitVec 32 := 0#32
  let v166 : BitVec 1 := Scalar.cmpi .ne v165 c0_i32_105
  v166

def k0_off22 (d0 : Dev nD) : Fin 2 → Nat :=
  let c3_i32_166 : BitVec 32 := 3#32
  let c0_i32_165 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.subi v8 c1_i32_163
  let c1_i32_164 : BitVec 32 := 1#32
  let v255 : BitVec 32 := Scalar.subi v254 c1_i32_164
  let v256 : BitVec 32 := Scalar.maxsi c0_i32_165 v255
  let v257 : BitVec 32 := Scalar.minsi c3_i32_166 v256
  let c2048_i32_170 : BitVec 32 := 2048#32
  let v263 : BitVec 32 := Scalar.muli v257 c2048_i32_170
  let c1_i32_169 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v262 : BitVec 32 := Scalar.subi c1_i32_169 v2
  let c1024_i32_171 : BitVec 32 := 1024#32
  let v264 : BitVec 32 := Scalar.muli v262 c1024_i32_171
  let v265 : BitVec 32 := Scalar.addi v263 v264
  let c0_i32_178 : BitVec 32 := 0#32
  ![v265.toNat, 0]
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_106 : BitVec 32 := 2#32
  let v167 : BitVec 1 := Scalar.cmpi .sle v8 c2_i32_106
  let c2_i32_107 : BitVec 32 := 2#32
  let v168 : BitVec 32 := Scalar.subi c2_i32_107 v8
  let c1_i32_108 : BitVec 32 := 1#32
  let v169 : BitVec 1 := Scalar.cmpi .sge v168 c1_i32_108
  let v170 : BitVec 1 := Scalar.andi v167 v169
  let v171 : BitVec 32 := Scalar.extui v170
  let c0_i32_109 : BitVec 32 := 0#32
  let v172 : BitVec 1 := Scalar.cmpi .ne v171 c0_i32_109
  v172

def k0_off23 (d0 : Dev nD) : Fin 2 → Nat :=
  let c3_i32_166 : BitVec 32 := 3#32
  let c0_i32_165 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.addi v8 c1_i32_163
  let c1_i32_164 : BitVec 32 := 1#32
  let v255 : BitVec 32 := Scalar.addi v254 c1_i32_164
  let v256 : BitVec 32 := Scalar.maxsi c0_i32_165 v255
  let v257 : BitVec 32 := Scalar.minsi c3_i32_166 v256
  let c2048_i32_170 : BitVec 32 := 2048#32
  let v263 : BitVec 32 := Scalar.muli v257 c2048_i32_170
  let c1_i32_169 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v262 : BitVec 32 := Scalar.subi c1_i32_169 v2
  let c1024_i32_171 : BitVec 32 := 1024#32
  let v264 : BitVec 32 := Scalar.muli v262 c1024_i32_171
  let v265 : BitVec 32 := Scalar.addi v263 v264
  let c0_i32_178 : BitVec 32 := 0#32
  ![v265.toNat, 0]
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v173 : BitVec 1 := Scalar.cmpi .sge v8 c1_i32_110
  let c1_i32_111 : BitVec 32 := 1#32
  let v174 : BitVec 32 := Scalar.subi v8 c1_i32_111
  let c2_i32_112 : BitVec 32 := 2#32
  let v175 : BitVec 1 := Scalar.cmpi .sge v174 c2_i32_112
  let v176 : BitVec 1 := Scalar.andi v173 v175
  let v177 : BitVec 32 := Scalar.extui v176
  let c0_i32_113 : BitVec 32 := 0#32
  let v178 : BitVec 1 := Scalar.cmpi .ne v177 c0_i32_113
  v178

def k0_off24 (d0 : Dev nD) : Fin 2 → Nat :=
  let c3_i32_166 : BitVec 32 := 3#32
  let c0_i32_165 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.subi v8 c1_i32_163
  let c2_i32_164 : BitVec 32 := 2#32
  let v255 : BitVec 32 := Scalar.subi v254 c2_i32_164
  let v256 : BitVec 32 := Scalar.maxsi c0_i32_165 v255
  let v257 : BitVec 32 := Scalar.minsi c3_i32_166 v256
  let c2048_i32_170 : BitVec 32 := 2048#32
  let v263 : BitVec 32 := Scalar.muli v257 c2048_i32_170
  let c1_i32_169 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v262 : BitVec 32 := Scalar.subi c1_i32_169 v2
  let c1024_i32_171 : BitVec 32 := 1024#32
  let v264 : BitVec 32 := Scalar.muli v262 c1024_i32_171
  let v265 : BitVec 32 := Scalar.addi v263 v264
  let c0_i32_178 : BitVec 32 := 0#32
  ![v265.toNat, 0]
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_114 : BitVec 32 := 2#32
  let v179 : BitVec 1 := Scalar.cmpi .sle v8 c2_i32_114
  let c2_i32_115 : BitVec 32 := 2#32
  let v180 : BitVec 32 := Scalar.subi c2_i32_115 v8
  let c2_i32_116 : BitVec 32 := 2#32
  let v181 : BitVec 1 := Scalar.cmpi .sge v180 c2_i32_116
  let v182 : BitVec 1 := Scalar.andi v179 v181
  let v183 : BitVec 32 := Scalar.extui v182
  let c0_i32_117 : BitVec 32 := 0#32
  let v184 : BitVec 1 := Scalar.cmpi .ne v183 c0_i32_117
  v184

def k0_off25 (d0 : Dev nD) : Fin 2 → Nat :=
  let c3_i32_166 : BitVec 32 := 3#32
  let c0_i32_165 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.addi v8 c1_i32_163
  let c2_i32_164 : BitVec 32 := 2#32
  let v255 : BitVec 32 := Scalar.addi v254 c2_i32_164
  let v256 : BitVec 32 := Scalar.maxsi c0_i32_165 v255
  let v257 : BitVec 32 := Scalar.minsi c3_i32_166 v256
  let c2048_i32_170 : BitVec 32 := 2048#32
  let v263 : BitVec 32 := Scalar.muli v257 c2048_i32_170
  let c1_i32_169 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v262 : BitVec 32 := Scalar.subi c1_i32_169 v2
  let c1024_i32_171 : BitVec 32 := 1024#32
  let v264 : BitVec 32 := Scalar.muli v262 c1024_i32_171
  let v265 : BitVec 32 := Scalar.addi v263 v264
  let c0_i32_178 : BitVec 32 := 0#32
  ![v265.toNat, 0]
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_118 : BitVec 32 := 3#32
  let v185 : BitVec 1 := Scalar.cmpi .slt v8 c3_i32_118
  let c0_i32_119 : BitVec 32 := 0#32
  let v186 : BitVec 1 := Scalar.cmpi .sge v8 c0_i32_119
  let v187 : BitVec 1 := Scalar.andi v185 v186
  let v188 : BitVec 32 := Scalar.extui v187
  let c0_i32_120 : BitVec 32 := 0#32
  let v189 : BitVec 1 := Scalar.cmpi .ne v188 c0_i32_120
  v189

def k0_off26 (d0 : Dev nD) : Fin 2 → Nat :=
  let c3_i32_165 : BitVec 32 := 3#32
  let c0_i32_164 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_163 : BitVec 32 := 0#32
  let v254 : BitVec 32 := Scalar.subi v8 c0_i32_163
  let v255 : BitVec 32 := Scalar.maxsi c0_i32_164 v254
  let v256 : BitVec 32 := Scalar.minsi c3_i32_165 v255
  let c2048_i32_166 : BitVec 32 := 2048#32
  let v257 : BitVec 32 := Scalar.muli v256 c2048_i32_166
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v258 : BitVec 32 := Scalar.muli v2 c1024_i32
  let v259 : BitVec 32 := Scalar.addi v257 v258
  let c0_i32_172 : BitVec 32 := 0#32
  ![v259.toNat, 0]
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_121 : BitVec 32 := 1#32
  let v190 : BitVec 1 := Scalar.cmpi .sge v8 c1_i32_121
  let c3_i32_122 : BitVec 32 := 3#32
  let v191 : BitVec 32 := Scalar.subi c3_i32_122 v8
  let c0_i32_123 : BitVec 32 := 0#32
  let v192 : BitVec 1 := Scalar.cmpi .sge v191 c0_i32_123
  let v193 : BitVec 1 := Scalar.andi v190 v192
  let v194 : BitVec 32 := Scalar.extui v193
  let c0_i32_124 : BitVec 32 := 0#32
  let v195 : BitVec 1 := Scalar.cmpi .ne v194 c0_i32_124
  v195

def k0_off27 (d0 : Dev nD) : Fin 2 → Nat :=
  let c3_i32_165 : BitVec 32 := 3#32
  let c0_i32_164 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_163 : BitVec 32 := 0#32
  let v254 : BitVec 32 := Scalar.addi v8 c0_i32_163
  let v255 : BitVec 32 := Scalar.maxsi c0_i32_164 v254
  let v256 : BitVec 32 := Scalar.minsi c3_i32_165 v255
  let c2048_i32_166 : BitVec 32 := 2048#32
  let v257 : BitVec 32 := Scalar.muli v256 c2048_i32_166
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v258 : BitVec 32 := Scalar.muli v2 c1024_i32
  let v259 : BitVec 32 := Scalar.addi v257 v258
  let c0_i32_172 : BitVec 32 := 0#32
  ![v259.toNat, 0]
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_125 : BitVec 32 := 1#32
  let v196 : BitVec 1 := Scalar.cmpi .sge v8 c1_i32_125
  let c1_i32_126 : BitVec 32 := 1#32
  let v197 : BitVec 32 := Scalar.subi v8 c1_i32_126
  let c0_i32_127 : BitVec 32 := 0#32
  let v198 : BitVec 1 := Scalar.cmpi .sge v197 c0_i32_127
  let v199 : BitVec 1 := Scalar.andi v196 v198
  let v200 : BitVec 32 := Scalar.extui v199
  let c0_i32_128 : BitVec 32 := 0#32
  let v201 : BitVec 1 := Scalar.cmpi .ne v200 c0_i32_128
  v201

def k0_off28 (d0 : Dev nD) : Fin 2 → Nat :=
  let c3_i32_166 : BitVec 32 := 3#32
  let c0_i32_165 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.subi v8 c1_i32_163
  let c0_i32_164 : BitVec 32 := 0#32
  let v255 : BitVec 32 := Scalar.subi v254 c0_i32_164
  let v256 : BitVec 32 := Scalar.maxsi c0_i32_165 v255
  let v257 : BitVec 32 := Scalar.minsi c3_i32_166 v256
  let c2048_i32_167 : BitVec 32 := 2048#32
  let v258 : BitVec 32 := Scalar.muli v257 c2048_i32_167
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v259 : BitVec 32 := Scalar.muli v2 c1024_i32
  let v260 : BitVec 32 := Scalar.addi v258 v259
  let c0_i32_173 : BitVec 32 := 0#32
  ![v260.toNat, 0]
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_129 : BitVec 32 := 2#32
  let v202 : BitVec 1 := Scalar.cmpi .sle v8 c2_i32_129
  let c2_i32_130 : BitVec 32 := 2#32
  let v203 : BitVec 32 := Scalar.subi c2_i32_130 v8
  let c0_i32_131 : BitVec 32 := 0#32
  let v204 : BitVec 1 := Scalar.cmpi .sge v203 c0_i32_131
  let v205 : BitVec 1 := Scalar.andi v202 v204
  let v206 : BitVec 32 := Scalar.extui v205
  let c0_i32_132 : BitVec 32 := 0#32
  let v207 : BitVec 1 := Scalar.cmpi .ne v206 c0_i32_132
  v207

def k0_off29 (d0 : Dev nD) : Fin 2 → Nat :=
  let c3_i32_166 : BitVec 32 := 3#32
  let c0_i32_165 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.addi v8 c1_i32_163
  let c0_i32_164 : BitVec 32 := 0#32
  let v255 : BitVec 32 := Scalar.addi v254 c0_i32_164
  let v256 : BitVec 32 := Scalar.maxsi c0_i32_165 v255
  let v257 : BitVec 32 := Scalar.minsi c3_i32_166 v256
  let c2048_i32_167 : BitVec 32 := 2048#32
  let v258 : BitVec 32 := Scalar.muli v257 c2048_i32_167
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v259 : BitVec 32 := Scalar.muli v2 c1024_i32
  let v260 : BitVec 32 := Scalar.addi v258 v259
  let c0_i32_173 : BitVec 32 := 0#32
  ![v260.toNat, 0]
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_133 : BitVec 32 := 3#32
  let v208 : BitVec 1 := Scalar.cmpi .slt v8 c3_i32_133
  let c1_i32_134 : BitVec 32 := 1#32
  let v209 : BitVec 1 := Scalar.cmpi .sge v8 c1_i32_134
  let v210 : BitVec 1 := Scalar.andi v208 v209
  let v211 : BitVec 32 := Scalar.extui v210
  let c0_i32_135 : BitVec 32 := 0#32
  let v212 : BitVec 1 := Scalar.cmpi .ne v211 c0_i32_135
  v212

def k0_off30 (d0 : Dev nD) : Fin 2 → Nat :=
  let c3_i32_165 : BitVec 32 := 3#32
  let c0_i32_164 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.subi v8 c1_i32_163
  let v255 : BitVec 32 := Scalar.maxsi c0_i32_164 v254
  let v256 : BitVec 32 := Scalar.minsi c3_i32_165 v255
  let c2048_i32_166 : BitVec 32 := 2048#32
  let v257 : BitVec 32 := Scalar.muli v256 c2048_i32_166
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v258 : BitVec 32 := Scalar.muli v2 c1024_i32
  let v259 : BitVec 32 := Scalar.addi v257 v258
  let c0_i32_172 : BitVec 32 := 0#32
  ![v259.toNat, 0]
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_136 : BitVec 32 := 1#32
  let v213 : BitVec 1 := Scalar.cmpi .sge v8 c1_i32_136
  let c3_i32_137 : BitVec 32 := 3#32
  let v214 : BitVec 32 := Scalar.subi c3_i32_137 v8
  let c1_i32_138 : BitVec 32 := 1#32
  let v215 : BitVec 1 := Scalar.cmpi .sge v214 c1_i32_138
  let v216 : BitVec 1 := Scalar.andi v213 v215
  let v217 : BitVec 32 := Scalar.extui v216
  let c0_i32_139 : BitVec 32 := 0#32
  let v218 : BitVec 1 := Scalar.cmpi .ne v217 c0_i32_139
  v218

def k0_off31 (d0 : Dev nD) : Fin 2 → Nat :=
  let c3_i32_165 : BitVec 32 := 3#32
  let c0_i32_164 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.addi v8 c1_i32_163
  let v255 : BitVec 32 := Scalar.maxsi c0_i32_164 v254
  let v256 : BitVec 32 := Scalar.minsi c3_i32_165 v255
  let c2048_i32_166 : BitVec 32 := 2048#32
  let v257 : BitVec 32 := Scalar.muli v256 c2048_i32_166
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v258 : BitVec 32 := Scalar.muli v2 c1024_i32
  let v259 : BitVec 32 := Scalar.addi v257 v258
  let c0_i32_172 : BitVec 32 := 0#32
  ![v259.toNat, 0]
def k0_cond29 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_140 : BitVec 32 := 1#32
  let v219 : BitVec 1 := Scalar.cmpi .sge v8 c1_i32_140
  let c1_i32_141 : BitVec 32 := 1#32
  let v220 : BitVec 32 := Scalar.subi v8 c1_i32_141
  let c1_i32_142 : BitVec 32 := 1#32
  let v221 : BitVec 1 := Scalar.cmpi .sge v220 c1_i32_142
  let v222 : BitVec 1 := Scalar.andi v219 v221
  let v223 : BitVec 32 := Scalar.extui v222
  let c0_i32_143 : BitVec 32 := 0#32
  let v224 : BitVec 1 := Scalar.cmpi .ne v223 c0_i32_143
  v224

def k0_off32 (d0 : Dev nD) : Fin 2 → Nat :=
  let c3_i32_166 : BitVec 32 := 3#32
  let c0_i32_165 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.subi v8 c1_i32_163
  let c1_i32_164 : BitVec 32 := 1#32
  let v255 : BitVec 32 := Scalar.subi v254 c1_i32_164
  let v256 : BitVec 32 := Scalar.maxsi c0_i32_165 v255
  let v257 : BitVec 32 := Scalar.minsi c3_i32_166 v256
  let c2048_i32_167 : BitVec 32 := 2048#32
  let v258 : BitVec 32 := Scalar.muli v257 c2048_i32_167
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v259 : BitVec 32 := Scalar.muli v2 c1024_i32
  let v260 : BitVec 32 := Scalar.addi v258 v259
  let c0_i32_173 : BitVec 32 := 0#32
  ![v260.toNat, 0]
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_144 : BitVec 32 := 2#32
  let v225 : BitVec 1 := Scalar.cmpi .sle v8 c2_i32_144
  let c2_i32_145 : BitVec 32 := 2#32
  let v226 : BitVec 32 := Scalar.subi c2_i32_145 v8
  let c1_i32_146 : BitVec 32 := 1#32
  let v227 : BitVec 1 := Scalar.cmpi .sge v226 c1_i32_146
  let v228 : BitVec 1 := Scalar.andi v225 v227
  let v229 : BitVec 32 := Scalar.extui v228
  let c0_i32_147 : BitVec 32 := 0#32
  let v230 : BitVec 1 := Scalar.cmpi .ne v229 c0_i32_147
  v230

def k0_off33 (d0 : Dev nD) : Fin 2 → Nat :=
  let c3_i32_166 : BitVec 32 := 3#32
  let c0_i32_165 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.addi v8 c1_i32_163
  let c1_i32_164 : BitVec 32 := 1#32
  let v255 : BitVec 32 := Scalar.addi v254 c1_i32_164
  let v256 : BitVec 32 := Scalar.maxsi c0_i32_165 v255
  let v257 : BitVec 32 := Scalar.minsi c3_i32_166 v256
  let c2048_i32_167 : BitVec 32 := 2048#32
  let v258 : BitVec 32 := Scalar.muli v257 c2048_i32_167
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v259 : BitVec 32 := Scalar.muli v2 c1024_i32
  let v260 : BitVec 32 := Scalar.addi v258 v259
  let c0_i32_173 : BitVec 32 := 0#32
  ![v260.toNat, 0]
def k0_cond31 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_148 : BitVec 32 := 3#32
  let v231 : BitVec 1 := Scalar.cmpi .slt v8 c3_i32_148
  let c2_i32_149 : BitVec 32 := 2#32
  let v232 : BitVec 1 := Scalar.cmpi .sge v8 c2_i32_149
  let v233 : BitVec 1 := Scalar.andi v231 v232
  let v234 : BitVec 32 := Scalar.extui v233
  let c0_i32_150 : BitVec 32 := 0#32
  let v235 : BitVec 1 := Scalar.cmpi .ne v234 c0_i32_150
  v235

def k0_off34 (d0 : Dev nD) : Fin 2 → Nat :=
  let c3_i32_165 : BitVec 32 := 3#32
  let c0_i32_164 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_163 : BitVec 32 := 2#32
  let v254 : BitVec 32 := Scalar.subi v8 c2_i32_163
  let v255 : BitVec 32 := Scalar.maxsi c0_i32_164 v254
  let v256 : BitVec 32 := Scalar.minsi c3_i32_165 v255
  let c2048_i32_166 : BitVec 32 := 2048#32
  let v257 : BitVec 32 := Scalar.muli v256 c2048_i32_166
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v258 : BitVec 32 := Scalar.muli v2 c1024_i32
  let v259 : BitVec 32 := Scalar.addi v257 v258
  let c0_i32_172 : BitVec 32 := 0#32
  ![v259.toNat, 0]
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v236 : BitVec 1 := Scalar.cmpi .sge v8 c1_i32_151
  let c3_i32_152 : BitVec 32 := 3#32
  let v237 : BitVec 32 := Scalar.subi c3_i32_152 v8
  let c2_i32_153 : BitVec 32 := 2#32
  let v238 : BitVec 1 := Scalar.cmpi .sge v237 c2_i32_153
  let v239 : BitVec 1 := Scalar.andi v236 v238
  let v240 : BitVec 32 := Scalar.extui v239
  let c0_i32_154 : BitVec 32 := 0#32
  let v241 : BitVec 1 := Scalar.cmpi .ne v240 c0_i32_154
  v241

def k0_off35 (d0 : Dev nD) : Fin 2 → Nat :=
  let c3_i32_165 : BitVec 32 := 3#32
  let c0_i32_164 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_163 : BitVec 32 := 2#32
  let v254 : BitVec 32 := Scalar.addi v8 c2_i32_163
  let v255 : BitVec 32 := Scalar.maxsi c0_i32_164 v254
  let v256 : BitVec 32 := Scalar.minsi c3_i32_165 v255
  let c2048_i32_166 : BitVec 32 := 2048#32
  let v257 : BitVec 32 := Scalar.muli v256 c2048_i32_166
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v258 : BitVec 32 := Scalar.muli v2 c1024_i32
  let v259 : BitVec 32 := Scalar.addi v257 v258
  let c0_i32_172 : BitVec 32 := 0#32
  ![v259.toNat, 0]
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v242 : BitVec 1 := Scalar.cmpi .sge v8 c1_i32_155
  let c1_i32_156 : BitVec 32 := 1#32
  let v243 : BitVec 32 := Scalar.subi v8 c1_i32_156
  let c2_i32_157 : BitVec 32 := 2#32
  let v244 : BitVec 1 := Scalar.cmpi .sge v243 c2_i32_157
  let v245 : BitVec 1 := Scalar.andi v242 v244
  let v246 : BitVec 32 := Scalar.extui v245
  let c0_i32_158 : BitVec 32 := 0#32
  let v247 : BitVec 1 := Scalar.cmpi .ne v246 c0_i32_158
  v247

def k0_off36 (d0 : Dev nD) : Fin 2 → Nat :=
  let c3_i32_166 : BitVec 32 := 3#32
  let c0_i32_165 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.subi v8 c1_i32_163
  let c2_i32_164 : BitVec 32 := 2#32
  let v255 : BitVec 32 := Scalar.subi v254 c2_i32_164
  let v256 : BitVec 32 := Scalar.maxsi c0_i32_165 v255
  let v257 : BitVec 32 := Scalar.minsi c3_i32_166 v256
  let c2048_i32_167 : BitVec 32 := 2048#32
  let v258 : BitVec 32 := Scalar.muli v257 c2048_i32_167
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v259 : BitVec 32 := Scalar.muli v2 c1024_i32
  let v260 : BitVec 32 := Scalar.addi v258 v259
  let c0_i32_173 : BitVec 32 := 0#32
  ![v260.toNat, 0]
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_159 : BitVec 32 := 2#32
  let v248 : BitVec 1 := Scalar.cmpi .sle v8 c2_i32_159
  let c2_i32_160 : BitVec 32 := 2#32
  let v249 : BitVec 32 := Scalar.subi c2_i32_160 v8
  let c2_i32_161 : BitVec 32 := 2#32
  let v250 : BitVec 1 := Scalar.cmpi .sge v249 c2_i32_161
  let v251 : BitVec 1 := Scalar.andi v248 v250
  let v252 : BitVec 32 := Scalar.extui v251
  let c0_i32_162 : BitVec 32 := 0#32
  let v253 : BitVec 1 := Scalar.cmpi .ne v252 c0_i32_162
  v253

def k0_off37 (d0 : Dev nD) : Fin 2 → Nat :=
  let c3_i32_166 : BitVec 32 := 3#32
  let c0_i32_165 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v254 : BitVec 32 := Scalar.addi v8 c1_i32_163
  let c2_i32_164 : BitVec 32 := 2#32
  let v255 : BitVec 32 := Scalar.addi v254 c2_i32_164
  let v256 : BitVec 32 := Scalar.maxsi c0_i32_165 v255
  let v257 : BitVec 32 := Scalar.minsi c3_i32_166 v256
  let c2048_i32_167 : BitVec 32 := 2048#32
  let v258 : BitVec 32 := Scalar.muli v257 c2048_i32_167
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v259 : BitVec 32 := Scalar.muli v2 c1024_i32
  let v260 : BitVec 32 := Scalar.addi v258 v259
  let c0_i32_173 : BitVec 32 := 0#32
  ![v260.toNat, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩

abbrev nBuf : Space → Nat
  | .hbm => 1
  | .vmem => 0
  | .smem => 0
  | _ => 0

abbrev bufTy : (tb : Table) → Fin (tcTables nBuf tb) → BufTy
  | .hbm, ⟨0, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
# The mesh and the traffic of the gather

Sixteen devices stand in a mesh of 2 × 2 × 4: device `c` has the coordinates `x = c / 8`, `y = (c / 4) % 2` and `z = c % 4`.
The gathered array has four row blocks, one per `z`, and each block two halves: eight SLOTS of equal size, slot `2 * o + h` for
half `h` of block `o`.

Four FLOWS carry slots between devices, each in at most three STEPS:
- flow 0 up the `z` axis (to `z + 1`) and flow 1 down it (to `z - 1`): the device's own half of a block, passed on step by step;
- flows 2 and 3 across the `x` axis: what flow 0, and what flow 1, has brought is handed to the device across.

This module holds the finite facts: who sends what to whom, that every device gets every slot once, and that what is sent on is
what has come in. All of them range over sixteen devices and are decided.
-/
module

public import Mathlib.Data.Fin.Basic
public import Mathlib.Data.Fintype.Prod
public import Mathlib.Tactic.FinCases

@[expose] public section

namespace Cert.Gather

/-- The devices, as numbers. -/
abbrev D := Fin 16
/-- The flows. -/
abbrev Flow := Fin 4
/-- The steps of a flow. -/
abbrev Step := Fin 3
/-- The slots of the gathered array. -/
abbrev Slot := Fin 8

/-- The position along the gathered axis. -/
def zc (c : D) : ℕ := c.val % 4
/-- The position along the axis that halves the blocks. -/
def xc (c : D) : ℕ := c.val / 8
/-- The position along the axis that takes no part. -/
def yc (c : D) : ℕ := c.val / 4 % 2

/-- Device number of a coordinate triple. -/
def dev (x y z : ℕ) : D := ⟨(8 * x + 4 * y + z) % 16, Nat.mod_lt _ (by omega)⟩

/-- The device after `c` around the gathered axis. -/
def up (c : D) : D := dev (xc c) (yc c) ((zc c + 1) % 4)
/-- The device before `c` around the gathered axis. -/
def down (c : D) : D := dev (xc c) (yc c) ((zc c + 3) % 4)
/-- The device across. -/
def across (c : D) : D := dev (1 - xc c) (yc c) (zc c)

/-- Where a flow leads from device `c`, -/
def dst (f : Flow) (c : D) : D := if f = 0 then up c else if f = 1 then down c else across c
/-- and where it comes from. -/
def org (f : Flow) (c : D) : D := if f = 0 then down c else if f = 1 then up c else across c

/-- Whether device `c` sends at step `s` of flow `f`. -/
def sends (f : Flow) (s : Step) (c : D) : Bool :=
  if f = 0 then zc c < 3 && s.val ≤ zc c
  else if f = 1 then 1 ≤ zc c && s.val + zc c ≤ 3
  else if f = 2 then s.val + 1 ≤ zc c
  else s.val + zc c ≤ 2

/-- Whether device `c` receives at step `s` of flow `f`: whether the flow's sender to it sends. -/
def gets (f : Flow) (s : Step) (c : D) : Bool := sends f s (org f c)

/-- The block device `c` sends at step `s` of flow `f`. -/
def block (f : Flow) (s : Step) (c : D) : ℕ :=
  if f = 0 then zc c - s.val else if f = 1 then zc c + s.val else if f = 2 then zc c - (1 + s.val) else zc c + 1 + s.val

/-- The slot of half `h` of block `o`. -/
def slotAt (o h : ℕ) : Slot := ⟨(2 * o + h) % 8, Nat.mod_lt _ (by omega)⟩

/-- The slot device `c` sends at step `s` of flow `f` -/
def sent (f : Flow) (s : Step) (c : D) : Slot := slotAt (block f s c) (xc c)
/-- and the slot it receives. -/
def got (f : Flow) (s : Step) (c : D) : Slot := sent f s (org f c)

/-- The two slots of a device's own block, which it fills from its own shard. -/
def own (c : D) (h : Fin 2) : Slot := slotAt (zc c) h.val

theorem dst_org : ∀ f c, dst f (org f c) = c := by decide
theorem org_dst : ∀ f c, org f (dst f c) = c := by decide

/-- A flow as a permutation of the devices. -/
def flow (f : Flow) : D ≃ D := ⟨dst f, org f, org_dst f, dst_org f⟩

theorem gets_dst (f : Flow) (s : Step) (c : D) : gets f s (dst f c) = sends f s c := by unfold gets; rw [org_dst]
theorem got_dst (f : Flow) (s : Step) (c : D) : got f s (dst f c) = sent f s c := by unfold got; rw [org_dst]

/-- No flow leaves the plane of its `y`. -/
theorem yc_dst : ∀ f c, yc (dst f c) = yc c := by decide

/-- Flows along the gathered axis send first half of the device's own block, -/
theorem sent_own : ∀ (f : Flow) (s : Step) (c : D), f.val < 2 → s.val = 0 → sent f s c = slotAt (zc c) (xc c) := by decide
/-- and then what they have brought at the step before; -/
theorem sends_next : ∀ (f : Fin 2) (s : Fin 2) (c : D),
    sends (f.castLE (by omega)) s.succ c = true →
      gets (f.castLE (by omega)) s.castSucc c = true ∧ sent (f.castLE (by omega)) s.succ c = got (f.castLE (by omega)) s.castSucc c := by decide
/-- and flows across carry, at the same step, what the flow along the axis has brought: flow `f + 2` what flow `f` has. -/
theorem sends_across : ∀ (f : Fin 2) (s : Step) (c : D),
    sends (f.natAdd 2) s c = gets (f.castLE (by omega)) s c ∧
      (sends (f.natAdd 2) s c = true → sent (f.natAdd 2) s c = got (f.castLE (by omega)) s c) := by decide

/-- The receiving steps of a device, -/
def arrivals (c : D) : Finset (Flow × Step) := Finset.univ.filter fun p => gets p.1 p.2 c = true

/-- at distinct slots, -/
theorem got_injOn : ∀ c, ∀ p ∈ arrivals c, ∀ q ∈ arrivals c, got p.1 p.2 c = got q.1 q.2 c → p = q := by decide
/-- none of them its own, -/
theorem own_notMem : ∀ c h, own c h ∉ (arrivals c).image fun p => got p.1 p.2 c := by decide
theorem own_injective : ∀ c, own c 0 ≠ own c 1 := by decide
/-- and with its own they are all the slots. -/
theorem slots_eq : ∀ c, (Finset.univ : Finset Slot) = insert (own c 0) (insert (own c 1) ((arrivals c).image fun p => got p.1 p.2 c)) := by decide

end Cert.Gather
-- ==== Proof.KernelIdeal.Contents.lean ====
/-
# The buffers' contents

What the input staging buffer of a device holds (its shard), what the gathered array holds in the end, and the eight slots of the
output staging buffer, each 1024 rows. A transfer copies a slot of the sender's buffer, or a half of its shard, into the same slot
of the receiver's; `landed_slot` and `landed_shard` say what it leaves there.
-/
module

public import proofs.«01_k».proof.Proof.Mesh
public import proofs.«01_k».proof.Proof.Gen.KernelIdeal
public import proofs.«01_k».proof.Proof.Gen.KernelIdeal.Launch
public import proofs.«01_k».proof.Proof.Gen.KernelIdeal.Frame
public import proofs.«01_k».proof.Proof.Gen.KernelIdeal.Skeleton
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.KernelIdeal.Gather

open Cert.KernelIdeal Cert.KernelIdeal.Gen
open Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Indices of the gathered array -/

/-- The row block an index of the gathered array lies in, -/
def blockOf (i : S8192x512.Idx) : ℕ := (i 0).val / 2048
/-- the half of that block, -/
def halfOf (i : S8192x512.Idx) : ℕ := (i 0).val % 2048 / 1024
/-- and its place within the block. -/
def inner (i : S8192x512.Idx) : S2048x512.Idx := fun
  | 0 => ⟨(i 0).val % 2048, Nat.mod_lt _ (by decide)⟩
  | 1 => i 1
  | ⟨_ + 2, h⟩ => absurd h (Nat.not_lt.2 (Nat.le_add_left _ _))

/-! ## The staging buffers -/

/-- The staging buffer of the shard -/
abbrev xM : Memref sig .tc .vmem S2048x512 .bf16 := Memref.whole cc0_stg0_0
/-- and that of the gathered array. -/
abbrev oM : Memref sig .tc .vmem S8192x512 .bf16 := Memref.whole cc0_stg1_0

variable (m : (ℓ : Loc nD τ sig) → Buf (Elt F) ℓ)

/-- The shard of device `c`, as its staging buffer holds it. -/
def shard (c : Dev nD) : S2048x512.Idx → Elt F .bf16 := iblk m c (0 : Fin 2) t0_0

/-- What the transfers bring to every device of the plane `y`: half `h` of block `o` is the half of the shard of the device
    at `(h, y, o)`. -/
def brought (y : ℕ) : S8192x512.Idx → Elt F .bf16 := fun i => shard m (dev (halfOf i) y (blockOf i)) (inner i)

/-- The gathered array on device `c`: its own block from its own shard, the others as brought. -/
def gathered (c : Dev nD) : S8192x512.Idx → Elt F .bf16 := fun i =>
  if blockOf i = zc c then shard m c (inner i) else brought m (yc c) i

/-! ## Slots -/

/-- The first row of a slot, -/
def slotOff (j : Slot) : Fin 2 → ℕ := ![1024 * j.val, 0]
theorem slotOff_inb : ∀ (j : Slot) (a : Fin 2), slotOff j a + S1024x512.size a ≤ S8192x512.size a := by decide
/-- the slot as a part of the output staging buffer, -/
abbrev slotM (j : Slot) : Memref sig .tc .vmem S1024x512 .bf16 :=
  oM.slice (Rect.unit (s := S8192x512) (slotOff j) S1024x512.size (slotOff_inb j)) (fun _ => rfl)
/-- its elements, -/
def slotSet (j : Slot) : Finset S8192x512.Idx := (slotM j).view.set
/-- and the half of the shard that device `c` sends. -/
def halfOff (c : Dev nD) : Fin 2 → ℕ := ![1024 * xc c, 0]
theorem halfOff_inb : ∀ (c : Dev nD) (a : Fin 2), halfOff c a + S1024x512.size a ≤ S2048x512.size a := by decide
abbrev halfM (c : Dev nD) : Memref sig .tc .vmem S1024x512 .bf16 :=
  xM.slice (Rect.unit (s := S2048x512) (halfOff c) S1024x512.size (halfOff_inb c)) (fun _ => rfl)

theorem mem_slotSet {j : Slot} {i : S8192x512.Idx} : i ∈ slotSet j ↔ 1024 * j.val ≤ (i 0).val ∧ (i 0).val < 1024 * j.val + 1024 := by
  show i ∈ ((View.whole cc0_stg1_0).slice (Rect.unit (s := S8192x512) (slotOff j) S1024x512.size (slotOff_inb j))).set ↔ _
  rw [View.set_slice_whole, Rect.mem_set_unit]
  refine Fin.forall_fin_two.trans ?_
  exact ⟨fun h => h.1, fun h => ⟨h, Nat.zero_le _, (i 1).isLt.trans_le (Nat.le_add_left _ _)⟩⟩

theorem slot_disjoint {j k : Slot} (h : j ≠ k) : Disjoint (slotSet j) (slotSet k) := by
  rw [Finset.disjoint_left]
  intro i hi hk
  rw [mem_slotSet] at hi hk
  exact h (Fin.ext (by omega))

theorem slot_cover : (Finset.univ : Finset Slot).biUnion slotSet = Finset.univ := by
  refine Finset.eq_univ_iff_forall.mpr fun i => Finset.mem_biUnion.mpr ?_
  have hi : (i 0).val < 8192 := (i 0).isLt
  exact ⟨⟨(i 0).val / 1024, by omega⟩, Finset.mem_univ _, mem_slotSet.mpr ⟨by show 1024 * ((i 0).val / 1024) ≤ _; omega, by show _ < 1024 * ((i 0).val / 1024) + 1024; omega⟩⟩

omit [FloatOps F] in
/-- Reading some elements of a buffer and writing them back through the same view leaves those contents there. -/
theorem write_read_self {sp : Space} {s : Shape} {e : EltTy} (v : View sig .tc sp s e) (f g : v.ty.Contents (Elt F)) {i : v.ty.Idx} (hi : i ∈ v.set) :
    v.write (Elt F) f (v.read (Elt F) g) Finset.univ i = g i := by
  obtain ⟨x, -, rfl⟩ := Finset.mem_map.mp hi
  rw [View.write_emb_of_mem _ _ (Finset.mem_univ x), View.read_apply, cast_cast, cast_eq]

omit [FloatOps F] in
/-- A slot copied into the same slot elsewhere. -/
theorem landed_slot (j : Slot) (fd g : S8192x512.Idx → Elt F .bf16) {i : S8192x512.Idx} (hi : i ∈ slotSet j) :
    (slotM j).view.write (Elt F) fd ((slotM j).view.read (Elt F) g) Finset.univ i = g i :=
  write_read_self (slotM j).view fd g hi

/-- The coordinates of a device determine it. -/
theorem dev_coords : ∀ c : Dev nD, dev (xc c) (yc c) (zc c) = c := by decide
theorem xc_lt : ∀ c : Dev nD, xc c < 2 := by decide
theorem zc_lt : ∀ c : Dev nD, zc c < 4 := by decide

/-- The half of its shard that device `c` sends, copied into its slot of the gathered array, is what the plane is to be brought. -/
theorem landed_shard (c : Dev nD) (j : Slot) (hj : j = slotAt (zc c) (xc c)) (fd : S8192x512.Idx → Elt F .bf16) {i : S8192x512.Idx} (hi : i ∈ slotSet j) :
    (slotM j).view.write (Elt F) fd ((halfM c).view.read (Elt F) (shard m c)) Finset.univ i = brought m (yc c) i := by
  have hx := xc_lt c
  have hz := zc_lt c
  have hjv : j.val = 2 * zc c + xc c := by rw [hj]; show (2 * zc c + xc c) % 8 = _; omega
  obtain ⟨k, -, rfl⟩ := Finset.mem_map.mp hi
  rw [View.write_emb_of_mem _ _ (Finset.mem_univ k), View.read_apply]
  show shard m c ((halfM c).view.emb k) = _
  have hk : (k 0).val < 1024 := (k 0).isLt
  have e0 : (((slotM j).view.emb k : S8192x512.Idx) 0).val = 1024 * j.val + (k 0).val := ValueKit.view_emb_slice_whole_unit_val cc0_stg1_0 (slotOff j) S1024x512.size (slotOff_inb j) k 0
  have e1 : (((slotM j).view.emb k : S8192x512.Idx) 1).val = 0 + (k 1).val := ValueKit.view_emb_slice_whole_unit_val cc0_stg1_0 (slotOff j) S1024x512.size (slotOff_inb j) k 1
  have d0 : (((halfM c).view.emb k : S2048x512.Idx) 0).val = 1024 * xc c + (k 0).val := ValueKit.view_emb_slice_whole_unit_val cc0_stg0_0 (halfOff c) S1024x512.size (halfOff_inb c) k 0
  have d1 : (((halfM c).view.emb k : S2048x512.Idx) 1).val = 0 + (k 1).val := ValueKit.view_emb_slice_whole_unit_val cc0_stg0_0 (halfOff c) S1024x512.size (halfOff_inb c) k 1
  unfold brought
  have hb : blockOf ((slotM j).view.emb k) = zc c := by unfold blockOf; rw [e0]; omega
  have hh : halfOf ((slotM j).view.emb k) = xc c := by unfold halfOf; rw [e0]; omega
  rw [hb, hh, dev_coords]
  congr 1
  funext a
  fin_cases a
  · exact Fin.ext (d0.trans (by show _ = (((slotM j).view.emb k : S8192x512.Idx) 0).val % 2048; rw [e0]; omega))
  · exact Fin.ext (d1.trans e1.symm)

/-! ## The device's own block -/

/-- The rows of a device's own block. -/
def ownOff (c : Dev nD) : Fin 2 → ℕ := ![2048 * zc c, 0]
theorem ownOff_inb : ∀ (c : Dev nD) (a : Fin 2), ownOff c a + S2048x512.size a ≤ S8192x512.size a := by decide

/-- Its two slots, joined. -/
def ownSet (c : Dev nD) : Finset S8192x512.Idx := slotSet (own c 0) ∪ slotSet (own c 1)

theorem mem_ownSet {c : Dev nD} {i : S8192x512.Idx} : i ∈ ownSet c ↔ 2048 * zc c ≤ (i 0).val ∧ (i 0).val < 2048 * zc c + 2048 := by
  have hz := zc_lt c
  have h0 : (own c 0).val = 2 * zc c := by show (2 * zc c + 0) % 8 = _; omega
  have h1 : (own c 1).val = 2 * zc c + 1 := by show (2 * zc c + 1) % 8 = _; omega
  unfold ownSet
  rw [Finset.mem_union, mem_slotSet, mem_slotSet, h0, h1]
  omega

theorem mem_ownSet_iff {c : Dev nD} {i : S8192x512.Idx} : i ∈ ownSet c ↔ blockOf i = zc c := by
  rw [mem_ownSet]; unfold blockOf; omega

theorem own_access (c : Dev nD) :
    ((oM.access (Rect.unit (s := S8192x512) (ownOff c) S2048x512.size (ownOff_inb c)) : View sig .tc _ _ _).set : Finset S8192x512.Idx) = ownSet c := by
  ext i
  show i ∈ ((View.whole cc0_stg1_0).slice (Rect.unit (s := S8192x512) (ownOff c) S2048x512.size (ownOff_inb c))).set ↔ _
  rw [View.set_slice_whole, Rect.mem_set_unit, mem_ownSet]
  refine Fin.forall_fin_two.trans ?_
  exact ⟨fun h => h.1, fun h => ⟨h, Nat.zero_le _, (i 1).isLt.trans_le (Nat.le_add_left _ _)⟩⟩

/-- The shard stored over the own block is the gathered array there. -/
theorem stored_own (c : Dev nD) (fd : S8192x512.Idx → Elt F .bf16) {i : S8192x512.Idx} (hi : i ∈ ownSet c) :
    (oM.access (Rect.unit (s := S8192x512) (ownOff c) S2048x512.size (ownOff_inb c)) : View sig .tc _ _ _).write (Elt F) fd (shard m c) Finset.univ i = gathered m c i := by
  unfold gathered
  rw [if_pos (mem_ownSet_iff.mp hi)]
  rw [← own_access] at hi
  obtain ⟨k, -, rfl⟩ := Finset.mem_map.mp hi
  rw [View.write_emb_of_mem _ _ (Finset.mem_univ k)]
  show shard m c k = _
  congr 1
  have hk : (k 0).val < 2048 := (k 0).isLt
  funext a
  fin_cases a
  · refine Fin.ext ?_
    show (k 0).val = (((oM.access (Rect.unit (s := S8192x512) (ownOff c) S2048x512.size (ownOff_inb c)) : View sig .tc _ _ _).emb k : S8192x512.Idx) 0).val % 2048
    rw [show (((oM.access (Rect.unit (s := S8192x512) (ownOff c) S2048x512.size (ownOff_inb c)) : View sig .tc _ _ _).emb k : S8192x512.Idx) 0).val = 2048 * zc c + (k 0).val from
      ValueKit.view_emb_slice_whole_unit_val cc0_stg1_0 (ownOff c) S2048x512.size (ownOff_inb c) k 0]
    omega
  · refine Fin.ext ?_
    refine Eq.trans ?_ (show (((oM.access (Rect.unit (s := S8192x512) (ownOff c) S2048x512.size (ownOff_inb c)) : View sig .tc _ _ _).emb k : S8192x512.Idx) 1).val = 0 + (k 1).val from
      ValueKit.view_emb_slice_whole_unit_val cc0_stg1_0 (ownOff c) S2048x512.size (ownOff_inb c) k 1).symm
    exact (Nat.zero_add _).symm

/-- Off the own block the gathered array is what is brought. -/
theorem gathered_of_notMem (c : Dev nD) {i : S8192x512.Idx} (hi : i ∉ ownSet c) : gathered m c i = brought m (yc c) i :=
  if_neg fun h => hi (mem_ownSet_iff.mpr h)

end Cert.KernelIdeal.Gather

end
-- ==== Proof.KernelIdeal.Sched.lean ====
/-
# The schedule of the semaphores

Every semaphore of the kernel serves one round. On device `c`:
- the barrier cell is signalled once by each of the three neighbours, and a neighbour's signal hands over the slots of ITS buffer
  that `c` is going to send into;
- the receive cell of flow `f`, step `s` is signalled by the transfer that arrives, which hands over the slot it has filled;
- the send cell is signalled by the transfer that leaves, which gives back what it has read.
-/
module

public import proofs.«01_k».proof.Proof.KernelIdeal.Contents

@[expose] public section

noncomputable section

namespace Cert.KernelIdeal.Gather

open Cert.KernelIdeal Cert.KernelIdeal.Gen
open Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's, and the rounds' with three duties to a cell -/

abbrev UB : Type := URounds (GSem nD τ sig) (Fin 3)
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Semaphores and cells -/

/-- The barrier semaphore, -/
abbrev barS : Sem sig := (SemArray.scalar (sig.barrier 0 rfl) : Sems sig S_).sem
/-- the semaphore that counts what leaves at step `s` of flow `f`, -/
def sendSem (f : Flow) (s : Step) : DmaSem sig := (⟨2 + 6 * f.val + s.val, by omega⟩ : Fin 26)
/-- and the one that counts what arrives. -/
def recvSem (f : Flow) (s : Step) : DmaSem sig := (⟨5 + 6 * f.val + s.val, by omega⟩ : Fin 26)

abbrev barCell (c : Dev nD) : GSem nD τ sig := ((c : Thread nD τ), .reg barS)
abbrev sendCell (f : Flow) (s : Step) (c : Dev nD) : GSem nD τ sig := ((c : Thread nD τ), .dma (sendSem f s))
abbrev recvCell (f : Flow) (s : Step) (c : Dev nD) : GSem nD τ sig := ((c : Thread nD τ), .dma (recvSem f s))

/-- What a transfer semaphore is for: whether it counts arrivals, its flow and its step. The first two belong to the staging of
    the arguments and results. -/
def kind (q : DmaSem sig) : Option (Bool × Flow × Step) :=
  if q.val < 2 then none
  else some (decide (3 ≤ (q.val - 2) % 6), ⟨(q.val - 2) / 6 % 4, Nat.mod_lt _ (by decide)⟩, ⟨(q.val - 2) % 3, Nat.mod_lt _ (by decide)⟩)

theorem kind_send : ∀ f s, kind (sendSem f s) = some (false, f, s) := by decide
theorem kind_recv : ∀ f s, kind (recvSem f s) = some (true, f, s) := by decide

/-- What a transfer adds to its semaphores: the credit of a slot. -/
abbrev N : ℕ := (slotM 0).view.dmaCredit
theorem N_pos : 0 < N := View.dmaCredit_pos _ (by decide)

/-! ## Pieces of the buffers -/

/-- A proposition held only if something is the case. -/
def given (b : Bool) (P : sProp 𝕄) : sProp 𝕄 := if b then P else iprop(emp)
omit [FloatOps F] in
theorem given_true {b : Bool} (h : b = true) (P : sProp 𝕄) : given b P = P := if_pos h
omit [FloatOps F] in
theorem given_false {b : Bool} (h : b = false) (P : sProp 𝕄) : given b P = iprop(emp) := by rw [h]; rfl
instance given_storable (b : Bool) (P : sProp 𝕄) [BI.Storable (upEmb : UEmb _ 𝕄) P] : BI.Storable (upEmb : UEmb _ 𝕄) (given b P) := by
  unfold given; split <;> infer_instance

/-- A slot of device `c`'s buffer, -/
def slotPts (c : Dev nD) (j : Slot) (q : PosShare TreeShare) (f : S8192x512.Idx → Elt F .bf16) : sProp 𝕄 :=
  oM.view.loc (c : Thread nD τ) ↦[slotSet j]{q} f
/-- with whatever it holds, -/
def slotAny (c : Dev nD) (j : Slot) : sProp 𝕄 := iprop(∃ f, slotPts c j fullShare f)
/-- and the half of its shard that it sends. -/
def halfPts (c : Dev nD) (q : PosShare TreeShare) : sProp 𝕄 := xM.view.loc (c : Thread nD τ) ↦[(halfM c).view.set]{q} shard m c

/-- What step `s` of flow `f` has brought to device `c`. -/
def arrived (f : Flow) (s : Step) (q : PosShare TreeShare) (c : Dev nD) : sProp 𝕄 :=
  given (gets f s c) (slotPts c (got f s c) q (brought m (yc c)))

/-- What device `c` lends to the transfer it starts at step `s` of flow `f`: a share of its shard's half, or of the slot it is
    passing on. -/
def lent : Flow → Step → Dev nD → sProp 𝕄
  | 0, 0, c => halfPts m c fullShare.left
  | 1, 0, c => halfPts m c fullShare.right
  | 0, 1, c => arrived m 0 0 fullShare.left c
  | 0, 2, c => arrived m 0 1 fullShare.left c
  | 1, 1, c => arrived m 1 0 fullShare.left c
  | 1, 2, c => arrived m 1 1 fullShare.left c
  | 2, s, c => arrived m 0 s fullShare.right c
  | 3, s, c => arrived m 1 s fullShare.right c

/-- The slot that device `c` sends into at step `s` of flow `f`, if it does, -/
def aim (f : Flow) (s : Step) (c : Dev nD) : sProp 𝕄 := given (sends f s c) (slotAny (dst f c) (sent f s c))
/-- and all of a flow's. -/
def room (f : Flow) (c : Dev nD) : sProp 𝕄 := bigSep Finset.univ fun s => aim (F := F) f s c

/-- What the three neighbours' signals hand to device `c`: the device across, the one above, the one below. -/
def barPay (d : Fin 3) (c : Dev nD) : sProp 𝕄 := if d = 0 then iprop(room 2 c ∗ room 3 c) else if d = 1 then room 0 c else room 1 c

instance slotPts_storable (c : Dev nD) (j : Slot) (q f) : BI.Storable (upEmb : UEmb _ 𝕄) (slotPts (F := F) c j q f) := by unfold slotPts; infer_instance
instance slotAny_storable (c : Dev nD) (j : Slot) : BI.Storable (upEmb : UEmb _ 𝕄) (slotAny (F := F) c j) := by unfold slotAny; infer_instance
instance halfPts_storable (c : Dev nD) (q) : BI.Storable (upEmb : UEmb _ 𝕄) (halfPts m c q) := by unfold halfPts; infer_instance
instance arrived_storable (f s q) (c : Dev nD) : BI.Storable (upEmb : UEmb _ 𝕄) (arrived m f s q c) := by unfold arrived; infer_instance
instance lent_storable (f s) (c : Dev nD) : BI.Storable (upEmb : UEmb _ 𝕄) (lent m f s c) := by
  unfold lent; split <;> infer_instance
instance aim_storable (f s) (c : Dev nD) : BI.Storable (upEmb : UEmb _ 𝕄) (aim (F := F) f s c) := by unfold aim; infer_instance
instance room_storable (f) (c : Dev nD) : BI.Storable (upEmb : UEmb _ 𝕄) (room (F := F) f c) := by unfold room; infer_instance
instance barPay_storable (d) (c : Dev nD) : BI.Storable (upEmb : UEmb _ 𝕄) (barPay (F := F) d c) := by
  unfold barPay; (repeat' split) <;> infer_instance

/-! ## The schedule -/

/-- The duties of a transfer cell. -/
def xferDuties (c : Dev nD) : Option (Bool × Flow × Step) → Finset (Fin 3)
  | none => ∅
  | some (false, f, s) => if sends f s c then {0} else ∅
  | some (true, f, s) => if gets f s c then {0} else ∅

/-- What a transfer cell hands over. -/
def xferPay (c : Dev nD) : Option (Bool × Flow × Step) → sProp 𝕄
  | none => iprop(emp)
  | some (false, f, s) => lent m f s c
  | some (true, f, s) => slotPts c (got f s c) fullShare (brought m (yc c))

instance xferPay_storable (c : Dev nD) (k) : BI.Storable (upEmb : UEmb _ 𝕄) (xferPay m c k) := by
  unfold xferPay; split <;> infer_instance

def semDuties (c : Dev nD) : SemLoc sig → Finset (Fin 3)
  | .reg b => if b = barS then Finset.univ else ∅
  | .dma q => xferDuties c (kind q)
def semPay (c : Dev nD) (d : Fin 3) : SemLoc sig → sProp 𝕄
  | .reg _ => barPay d c
  | .dma q => xferPay m c (kind q)
def semAmount : SemLoc sig → ℕ
  | .reg _ => 1
  | .dma _ => N

instance semPay_storable (c : Dev nD) (d) (s) : BI.Storable (upEmb : UEmb _ 𝕄) (semPay m c d s) := by
  unfold semPay; split <;> infer_instance

def Rd : Rounds.Schedule (GSem nD τ sig) (Fin 3) 𝕄 where
  duties g r := if r = 0 ∧ g.1.2 = .tc then semDuties g.1.1 g.2 else ∅
  unitless _ := False
  amount g _ _ := semAmount g.2
  payload g _ d := semPay m g.1.1 d g.2
  amount_pos g _ _ _ := by
    unfold semAmount; split
    · exact Nat.one_pos
    · exact N_pos

instance Rd_storable (g : GSem nD τ sig) (r : ℕ) (d : Fin 3) : BI.Storable (upEmb : UEmb _ 𝕄) ((Rd m).payload g r d) :=
  semPay_storable m g.1.1 d g.2

section Facts
variable (f : Flow) (s : Step) (c : Dev nD)

omit [FloatOps F] in
theorem duties_tc (sm : SemLoc sig) : (Rd m).duties ((c : Thread nD τ), sm) 0 = semDuties c sm := by
  dsimp only [Rd]; exact if_pos ⟨rfl, rfl⟩
omit [FloatOps F] in
theorem duties_bar : (Rd m).duties (barCell c) 0 = Finset.univ := by
  rw [duties_tc]; unfold semDuties; exact if_pos rfl
omit [FloatOps F] in
theorem duties_send : (Rd m).duties (sendCell f s c) 0 = if sends f s c then {0} else ∅ := by
  rw [duties_tc]; unfold semDuties xferDuties; simp only [kind_send]
omit [FloatOps F] in
theorem duties_recv : (Rd m).duties (recvCell f s c) 0 = if gets f s c then {0} else ∅ := by
  rw [duties_tc]; unfold semDuties xferDuties; simp only [kind_recv]
omit [FloatOps F] in
theorem duties_later (g : GSem nD τ sig) : ∀ r, 1 ≤ r → (Rd m).duties g r = ∅ := fun r hr => if_neg fun h => by omega

omit [FloatOps F] in
theorem payload_bar (d : Fin 3) : (Rd m).payload (barCell c) 0 d = barPay d c := rfl
omit [FloatOps F] in
theorem payload_send (d : Fin 3) : (Rd m).payload (sendCell f s c) 0 d = lent m f s c := by
  show semPay m c d (.dma (sendSem f s)) = _
  unfold semPay xferPay; simp only [kind_send]
omit [FloatOps F] in
theorem payload_recv (d : Fin 3) : (Rd m).payload (recvCell f s c) 0 d = slotPts c (got f s c) fullShare (brought m (yc c)) := by
  show semPay m c d (.dma (recvSem f s)) = _
  unfold semPay xferPay; simp only [kind_recv]

omit [FloatOps F] in
theorem expect_bar : (Rd m).expect (barCell c) 0 = 3 := by
  unfold Schedule.expect Schedule.amountOf
  rw [duties_bar]; rfl
omit [FloatOps F] in
/-- A transfer cell with its one duty is to be signalled the credit of a slot, -/
theorem expect_xfer (q : DmaSem sig) (h : (Rd m).duties ((c : Thread nD τ), .dma q) 0 = {0}) : (Rd m).expect ((c : Thread nD τ), .dma q) 0 = N := by
  unfold Schedule.expect Schedule.amountOf
  rw [h, Finset.sum_singleton]; rfl
omit [FloatOps F] in
/-- and hands over that duty's payload. -/
theorem rest_xfer (q : DmaSem sig) (h : (Rd m).duties ((c : Thread nD τ), .dma q) 0 = {0}) :
    bigSep ((Rd m).duties ((c : Thread nD τ), .dma q) 0 \ ∅) (fun d => (Rd m).payload ((c : Thread nD τ), .dma q) 0 d) = xferPay m c (kind q) := by
  rw [Finset.sdiff_empty, h, bigSep_singleton]; rfl
omit [FloatOps F] in
theorem rest_bar : bigSep ((Rd m).duties (barCell c) 0 \ ∅) (fun d => (Rd m).payload (barCell c) 0 d)
    = iprop((room 2 c ∗ room 3 c) ∗ room 0 c ∗ room 1 c) := by
  rw [Finset.sdiff_empty, duties_bar, bigSep_univ_eq_bigSepL [0, 1, 2] (by decide) (by decide), bigSepL_cons_cons, bigSepL_cons_cons, bigSepL_singleton]
  rfl

end Facts

/-! ## What each device owes, and the levels -/

/-- The transfers in the order in which the program starts them. -/
def order : List (Flow × Step) := [(0, 0), (1, 0), (0, 1), (2, 0), (1, 1), (3, 0), (0, 2), (2, 1), (1, 2), (3, 1), (2, 2), (3, 2)]

/-- What device `c` owes for one transfer, -/
def due (c : Dev nD) (p : Flow × Step) : CellTallies nD τ sig Unit :=
  if sends p.1 p.2 c then tallyAt (recvCell p.1 p.2 (dst p.1 c)) () N else 0
/-- for a list of them, the first one last, -/
def dues (c : Dev nD) : List (Flow × Step) → CellTallies nD τ sig Unit
  | [] => 0
  | p :: l => dues c l + due c p
/-- and at the start: all of them, and a unit to the barrier of each neighbour. -/
def dues₁ (c : Dev nD) : CellTallies nD τ sig Unit := dues c order + tallyAt (barCell (dst 1 c)) () 1
def dues₂ (c : Dev nD) : CellTallies nD τ sig Unit := dues₁ c + tallyAt (barCell (dst 0 c)) () 1
def dues₀ (c : Dev nD) : CellTallies nD τ sig Unit := dues₂ c + tallyAt (barCell (dst 2 c)) () 1

def L (g : GSem nD τ sig) : Finset Unit := if g.1.2 = .tc then {()} else ∅
/-- The level of an arrival: along the gathered axis one higher at each step, across above them all. -/
def rank (f : Flow) (s : Step) : ℕ := if f.val < 2 then 2 + s.val else 10
def semLv : SemLoc sig → ℕ
  | .reg _ => 1
  | .dma q => match kind q with
    | some (true, f, s) => rank f s
    | _ => 0
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by rw [L_tc]; exact Finset.mem_singleton.mpr rfl

theorem semLv_recv (f s) : semLv (.dma (recvSem f s)) = rank f s := by unfold semLv; simp only [kind_recv]
theorem semLv_send (f s) : semLv (.dma (sendSem f s)) = 0 := by unfold semLv; simp only [kind_send]
theorem rank_pos (f s) : 1 < rank f s := by unfold rank; split <;> omega

theorem due_pos {c : Dev nD} {p : Flow × Step} {g : GSem nD τ sig} {u : Unit} (h : 0 < due c p g u) : g = recvCell p.1 p.2 (dst p.1 c) := by
  unfold due at h; split at h
  · exact (Pipeline.tallyAt_pos h).1
  · exact absurd h (Nat.lt_irrefl 0)

theorem dues_pos {c : Dev nD} {g : GSem nD τ sig} {u : Unit} : ∀ {l : List (Flow × Step)}, 0 < dues c l g u →
    ∃ p ∈ l, g = recvCell p.1 p.2 (dst p.1 c)
  | [], h => absurd h (Nat.lt_irrefl 0)
  | p :: l, h => by
    rcases Pipeline.add_pos_cases (show 0 < (dues c l + due c p) g u from h) with h | h
    · obtain ⟨q, hq, e⟩ := dues_pos h
      exact ⟨q, List.mem_cons_of_mem _ hq, e⟩
    · exact ⟨p, List.mem_cons_self, due_pos h⟩

omit [FloatOps F] in
/-- A device may wait on a semaphore below all the transfers it still owes. -/
theorem mayWait_dues (c : Dev nD) (sm : SemLoc sig) (l : List (Flow × Step)) (h : ∀ p ∈ l, semLv sm < rank p.1 p.2) :
    (levAts L lv : sProp 𝕄) ⊢ MayWait (c : Thread nD τ) sm () (dues c l) :=
  Pipeline.mayWait_of_levAts (mem_L c sm ()) fun g i hp => by
    obtain ⟨p, hl, rfl⟩ := dues_pos hp
    exact ⟨mem_L _ _ _, by show semLv sm < semLv (.dma (recvSem p.1 p.2)); rw [semLv_recv]; exact h p hl⟩

omit [FloatOps F] in
/-- The staging semaphores lie below all that is owed. -/
theorem mayWait_stage (c : Dev nD) (q : DmaSem sig) (hq : kind q = none) :
    (levAts L lv : sProp 𝕄) ⊢ MayWait (c : Thread nD τ) (.dma q) () (dues₀ c) := by
  have hlv : semLv (.dma q) = 0 := by unfold semLv; simp only [hq]
  refine Pipeline.mayWait_of_levAts (mem_L c _ ()) fun g i hp => ?_
  have bar : ∀ d : Dev nD, g = barCell d → i ∈ L g ∧ lv ((c : Thread nD τ), .dma q) () < lv g i := by
    rintro d rfl
    exact ⟨mem_L _ _ _, by show semLv (.dma q) < 1; omega⟩
  rcases Pipeline.add_pos_cases (show 0 < (dues₂ c + tallyAt (barCell (dst 2 c)) () 1) g i from hp) with hp | hp
  · rcases Pipeline.add_pos_cases (show 0 < (dues₁ c + tallyAt (barCell (dst 0 c)) () 1) g i from hp) with hp | hp
    · rcases Pipeline.add_pos_cases (show 0 < (dues c order + tallyAt (barCell (dst 1 c)) () 1) g i from hp) with hp | hp
      · obtain ⟨p, -, rfl⟩ := dues_pos hp
        have := rank_pos p.1 p.2
        exact ⟨mem_L _ _ _, by show semLv (.dma q) < semLv (.dma (recvSem p.1 p.2)); rw [semLv_recv]; omega⟩
      · exact bar _ (Pipeline.tallyAt_pos hp).1
    · exact bar _ (Pipeline.tallyAt_pos hp).1
  · exact bar _ (Pipeline.tallyAt_pos hp).1

end Cert.KernelIdeal.Gather

end
-- ==== Proof.KernelIdeal.Steps.lean ====
/-
# One wait or one transfer at a time

Every block of the kernel's body is a conditional around one transfer started or one semaphore waited for. There are three kinds of
blocks: waiting for an arrival, starting a transfer, waiting for a transfer to have left. Each is proved here once, for every flow and
every step, whether the condition holds or not.
-/
module

public import proofs.«01_k».proof.Proof.KernelIdeal.Sched

@[expose] public section

noncomputable section

namespace Cert.KernelIdeal.Gather

open Cert.KernelIdeal Cert.KernelIdeal.Gen
open Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

/-! ## The cells' records -/

/-- The semaphores of one device: its barrier, and the transfer semaphores by whether they count arrivals, by flow and by step. -/
abbrev Key : Type := Option (Bool × Flow × Step)
def semOf : Bool × Flow × Step → SemLoc sig
  | (false, f, s) => .dma (sendSem f s)
  | (true, f, s) => .dma (recvSem f s)
def keySem : Key → SemLoc sig
  | none => .reg barS
  | some p => semOf p
def cell (x : Dev nD × Key) : GSem nD τ sig := ((x.1 : Thread nD τ), keySem x.2)

/-- That every cell of every device follows the schedule, and has reached its round. -/
def records (K : Dev nD × Key → ℕ) : sProp 𝕄 :=
  iprop((bigSep Finset.univ fun x => cellInv ER (Rd m) (K x) (cell x)) ∗ bigSep Finset.univ fun x => reached ER (cell x) 0)
/-- What all blocks rely on: that, and the levels. -/
def ctx (K : Dev nD × Key → ℕ) : sProp 𝕄 := iprop(records m K ∗ levAts L lv)

instance records_persistent (K : Dev nD × Key → ℕ) : BI.Persistent (records m K) := by unfold records; infer_instance
instance ctx_persistent (K : Dev nD × Key → ℕ) : BI.Persistent (ctx m K) := by unfold ctx; infer_instance

variable (K : Dev nD × Key → ℕ)

omit [FloatOps F] in
theorem ctx_inv (x : Dev nD × Key) : ctx m K ⊢ cellInv ER (Rd m) (K x) (cell x) := by
  unfold ctx records
  iintro ⟨⟨H, -⟩, -⟩
  iapply (show (bigSep Finset.univ fun x => cellInv ER (Rd m) (K x) (cell x) : sProp 𝕄) ⊢ _ from bigSep_elim (Finset.mem_univ x)) $$ H
omit [FloatOps F] in
theorem ctx_reached (x : Dev nD × Key) : ctx m K ⊢ reached ER (cell x) 0 := by
  unfold ctx records
  iintro ⟨⟨-, H⟩, -⟩
  iapply (show (bigSep Finset.univ fun x => reached ER (cell x) 0 : sProp 𝕄) ⊢ _ from bigSep_elim (Finset.mem_univ x)) $$ H
omit [FloatOps F] in
theorem ctx_lev : ctx m K ⊢ (levAts L lv : sProp 𝕄) := by unfold ctx; iintro ⟨-, H⟩; iexact H
set_option maxRecDepth 10000 in
omit [FloatOps F] in
theorem ctx_mayWait (c : Dev nD) (sm : SemLoc sig) (l : List (Flow × Step)) (h : ∀ p ∈ l, semLv sm < rank p.1 p.2) :
    ctx m K ⊢ MayWait (c : Thread nD τ) sm () (dues c l) := (ctx_lev m K).trans (mayWait_dues c sm l h)

/-! ## Programs run on a device -/

abbrev 𝒱₀ : Variants := Variants.none
/-- What a program run on device `c` needs to end in `Q`. -/
def run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem run_bind (c : Dev nD) {α β : Type} (p : Prog (TpuEff nD τ sig (Elt F) Λ₀ .tc) α) (k : α → Prog (TpuEff nD τ sig (Elt F) Λ₀ .tc) β)
    (Q : β → sProp 𝕄) : run c (p >>= k) Q = run c p fun a => run c (k a) Q := wp_bind ..
theorem run_seq (c : Dev nD) {α β : Type} {p : Prog (TpuEff nD τ sig (Elt F) Λ₀ .tc) α} {k : α → Prog (TpuEff nD τ sig (Elt F) Λ₀ .tc) β}
    {Q : β → sProp 𝕄} : run c p (fun a => run c (k a) Q) ⊢ run c (p >>= k) Q := Entails.of_eq (run_bind c p k Q).symm
theorem run_ret (c : Dev nD) {α : Type} (a : α) (Q : α → sProp 𝕄) : Q a ⊢ run c (.ret a) Q := by
  unfold run; rw [wp_ret]; exact fupd_intro

/-- A core's debts, whatever it has waited on. -/
def owesE (c : Dev nD) (O : CellTallies nD τ sig Unit) : sProp 𝕄 := iprop(∃ W, owes (c : Thread nD τ) O W)

section Blocks
variable (f : Flow) (s : Step) (c : Dev nD)

/-! ## Waiting for an arrival -/

/-- Before: the receive cell is untouched, and if anything is to come the device may claim it. -/
def recvPre : sProp 𝕄 := iprop(atPos ER (recvCell f s c) 0 ∅ 0 ∗ given (gets f s c) (cred (tallyAt (recvCell f s c) () N)))
/-- After: the cell is closed, and what has come is there. -/
abbrev recvPost : sProp 𝕄 := iprop(semVal (recvCell f s c) 0 ∗ arrived m f s fullShare c)

omit [FloatOps F] in
/-- A cell whose rounds are over gives its counter back. -/
theorem close (x : Dev nD × Key) (R : ℕ) (hR : ∀ r, R ≤ r → (Rd m).duties (cell x) r = ∅) :
    iprop(ctx m K ∗ atPos ER (cell x) R ∅ 0) ⊢ |={Set.univ}=> semVal (cell x) 0 := by
  iintro ⟨HC, Hat⟩
  iapply (Rounds.cell_close ER (Rd m) (Set.mem_univ (K x)) (fun h => h) hR)
  isplitl [HC]
  · iapply (ctx_inv m K x) $$ HC
  iexact Hat

omit [FloatOps F] in
theorem idle (x : Dev nD × Key) (h : (Rd m).duties (cell x) 0 = ∅) : ∀ r, 0 ≤ r → (Rd m).duties (cell x) r = ∅ := fun r _ => by
  rcases Nat.eq_zero_or_pos r with rfl | hr
  · exact h
  · exact duties_later m _ r hr

theorem recv_wait (hg : gets f s c = true) {sm : DmaSem sig} (hsm : sm = recvSem f s) {sh sh' : Shape} {src : Memref sig .tc .vmem sh' .bf16} {dst : Memref sig .tc .vmem sh .bf16}
    {hsrc : src.view.WordExact} {hdst : dst.view.WordExact} (hN : dst.view.dmaCredit = N)
    (l : List (Flow × Step)) (hl : ∀ p ∈ l, rank f s < rank p.1 p.2) {α : Type} {k : PUnit → Prog (TpuEff nD τ sig (Elt F) Λ₀ .tc) α} {Q : α → sProp 𝕄} :
    ctx m K ⊢ iprop(owesE c (dues c l) -∗ recvPre f s c -∗ ((owesE c (dues c l) ∗ recvPost m f s c) -∗ run c (k ⟨⟩) Q)
      -∗ run c (.op (.waitDma2 sm src dst hsrc hdst) k) Q) := by
  subst hsm
  have hd : (Rd m).duties (recvCell f s c) 0 = {0} := by rw [duties_recv, if_pos hg]
  unfold recvPre recvPost owesE arrived run
  rw [given_true hg, given_true hg]
  iintro #HC ⟨%W, HO⟩ ⟨Hat, Hcr⟩ Hk
  iapply (Rounds.wp_wait_rest_token 𝒱₀ ER (Rd m) (c : Thread nD τ) none (κ := K (c, some (true, f, s)))
      (wpE_waitDma2_eq 𝒱₀ (c : Thread nD τ) none Set.univ) (Set.mem_univ _) () (O := dues c l) (W := W) (R := 0) (m := 0) (T := ∅)
      ((Nat.zero_add _).trans (hN.trans (expect_xfer m c (recvSem f s) hd).symm))) $$ [Hcr HO Hat]
  · rw [hN]
    isplitr; · iapply (ctx_inv m K (c, some (true, f, s))); iexact HC
    isplitl [Hcr]; · iexact Hcr
    isplitl [HO]; · iexact HO
    isplitr
    · iapply (ctx_mayWait m K c (.dma (recvSem f s)) l (by rw [semLv_recv]; exact hl)); iexact HC
    iexact Hat
  iintro ⟨HO, Hat, -, Hpay⟩
  ihave Hp := (Entails.of_eq ((rest_xfer m c (recvSem f s) hd).trans (show _ = slotPts c (got f s c) fullShare (brought m (yc c)) by rw [kind_recv]; rfl))) $$ Hpay
  imod (close m K (c, some (true, f, s)) (0 + 1) (duties_later m _)) $$ [Hat] with Hz
  · isplitr; · iexact HC
    iexact Hat
  iapply Hk
  isplitl [HO]; · iexists _; iexact HO
  isplitl [Hz]; · iexact Hz
  iexact Hp

omit [FloatOps F] in
theorem recv_skip (hg : gets f s c = false) : iprop(ctx m K ∗ recvPre f s c) ⊢ |={Set.univ}=> recvPost m f s c := by
  unfold recvPre recvPost arrived
  rw [given_false hg, given_false hg]
  iintro ⟨#HC, Hat, -⟩
  imod (close m K (c, some (true, f, s)) 0 (idle m _ (by show (Rd m).duties (recvCell f s c) 0 = ∅; rw [duties_recv, hg]; rfl))) $$ [Hat] with Hz
  · isplitr; · iexact HC
    iexact Hat
  imodintro
  isplitl; · iexact Hz
  iempintro

/-- The block: wait if anything is to come. -/
theorem recv_block {b : BitVec 1} (hb : b = 1#1 ↔ gets f s c = true) {sm : b = 1#1 → DmaSem sig} {off : Fin 2 → ℕ}
    {inb : b = 1#1 → ∀ a, off a + S1024x512.size a ≤ S8192x512.size a} {hsrc hdst : ∀ h, (oM.slice (Rect.unit (s := S8192x512) off S1024x512.size (inb h)) (fun _ => rfl)).view.WordExact}
    (hsm : ∀ h, sm h = recvSem f s)
    (i : ℕ) (hl : ∀ p ∈ order.drop i, rank f s < rank p.1 p.2) {α : Type} {k : PUnit → Prog (TpuEff nD τ sig (Elt F) Λ₀ .tc) α} {Q : α → sProp 𝕄} :
    ctx m K ⊢ iprop(owesE c (dues c (order.drop i)) -∗ recvPre f s c -∗ ((owesE c (dues c (order.drop i)) ∗ recvPost m f s c) -∗ run c (k ⟨⟩) Q)
      -∗ run c (if h : b = 1#1 then (do
          Prog.lift (.waitDma2 (sm h) (oM.slice (Rect.unit (s := S8192x512) off S1024x512.size (inb h)) (fun _ => rfl))
            (oM.slice (Rect.unit (s := S8192x512) off S1024x512.size (inb h)) (fun _ => rfl)) (hsrc h) (hdst h))
          k ⟨⟩)
        else k ⟨⟩) Q) := by
  by_cases h : b = 1#1
  · rw [dif_pos h]
    iintro #HC HO Hpre Hk
    simp only [Prog.lift, Prog.bind_op, Prog.bind_ret, Prog.pure_eq_ret]
    iapply (recv_wait m K f s c (hb.mp h) (hsm h) (dst := oM.slice (Rect.unit (s := S8192x512) off S1024x512.size (inb h)) (fun _ => rfl)) rfl (order.drop i) hl) $$ HC HO Hpre
    iintro HP
    iapply Hk $$ HP
  · rw [dif_neg h]
    iintro #HC HO Hpre Hk
    unfold run
    imod (recv_skip m K f s c (by rw [← Bool.not_eq_true]; exact fun hg => h (hb.mpr hg))) $$ [Hpre] with HP
    · isplitr; · iexact HC
      iexact Hpre
    iapply Hk
    isplitl [HO] <;> iassumption

/-! ## Starting a transfer -/

/-- Before: the send cell is untouched, the device may pay it and the receive cell it aims at, and has the slot it aims at. -/
def sendPre : sProp 𝕄 := iprop(atPos ER (sendCell f s c) 0 ∅ 0 ∗ dutyTok ER (sendCell f s c) 0 0
  ∗ dutyTok ER (recvCell f s (Cert.Gather.dst f c)) 0 0 ∗ aim f s c)
/-- In between: the device may claim that it has left, or still has what it would have lent. -/
def sendMid : sProp 𝕄 := iprop(atPos ER (sendCell f s c) 0 ∅ 0 ∗ if sends f s c then cred (tallyAt (sendCell f s c) () N) else lent m f s c)
/-- At the end: the cell is closed, and what was lent is back. -/
abbrev sendPost : sProp 𝕄 := iprop(semVal (sendCell f s c) 0 ∗ lent m f s c)

theorem send_start (hg : sends f s c = true) (n : Dev nD) (hn : n = Cert.Gather.dst f c) {sS sR : DmaSem sig} (hsS : sS = sendSem f s) (hsR : sR = recvSem f s)
    {src : Memref sig .tc .vmem S1024x512 .bf16} {tgt : Memref sig (Dev.tc n : Thread nD τ).2.kind .vmem S1024x512 .bf16} (ht : tgt = slotM (sent f s c))
    {hsc : tgt.view.ref.isScScratch = false} {hsrc : src.view.WordExact} {hdst : tgt.view.WordExact}
    {hsem : DmaTarget.Typed .vmem (.dma sR) (.remote (Dev.tc n : Thread nD τ) tgt (.dma sS) hsc)}
    {q : PosShare TreeShare} {g : Buf (Elt F) (src.view.loc (c : Thread nD τ))} (hlent : lent m f s c = (src.view.loc (c : Thread nD τ) ↦[src.view.set]{q} g))
    (hland : ∀ fd : S8192x512.Idx → Elt F .bf16, ∀ i ∈ slotSet (sent f s c),
      (slotM (sent f s c)).view.write (Elt F) fd (src.view.read (Elt F) g) Finset.univ i = brought m (yc c) i)
    (l : List (Flow × Step)) {α : Type} {k : PUnit → Prog (TpuEff nD τ sig (Elt F) Λ₀ .tc) α} {Q : α → sProp 𝕄} :
    ctx m K ⊢ iprop(owesE c (dues c ((f, s) :: l)) -∗ sendPre f s c -∗ lent m f s c -∗ ((owesE c (dues c l) ∗ sendMid m f s c) -∗ run c (k ⟨⟩) Q)
      -∗ run c (.op (.enqueueDma src (.remote (Dev.tc n : Thread nD τ) tgt (.dma sS) hsc) (.dma sR) hsrc hdst hsem) k) Q) := by
  subst hn; subst hsS; subst hsR; subst ht
  unfold sendPre sendMid owesE run aim slotAny
  rw [given_true hg, if_pos hg, hlent]
  iintro #HC ⟨%W, HO⟩ ⟨Hat, HtS, HtR, ⟨%fd, Hd⟩⟩ Hs Hk
  iapply (Rounds.wp_send_pointsTo 𝒱₀ ER (Rd m) (c : Thread nD τ) none (κ₁ := K (c, some (false, f, s))) (κ₂ := K (Cert.Gather.dst f c, some (true, f, s)))
      (r₁ := 0) (r₂ := 0) (d₁ := 0) (d₂ := 0) (fd := fd) (fs := g) (q := q)
      (by rw [duties_send, if_pos hg]; exact Finset.mem_singleton_self _) (by rw [duties_recv, gets_dst, if_pos hg]; exact Finset.mem_singleton_self _)
      () () N rfl rfl rfl (dues c l) (by show dues c l + due c (f, s) = _; unfold due; rw [if_pos hg]) (W := W)
      (by rw [payload_send, hlent])
      (by
        rw [payload_recv, got_dst, yc_dst]
        unfold slotPts
        exact Entails.of_eq (pointsTo_congr (ℓ := oM.view.loc (Cert.Gather.dst f c : Thread nD τ)) (I := slotSet (sent f s c)) (hland fd)))) $$ [HO HtS HtR Hd Hs]
  · isplitr; · iapply (ctx_inv m K (c, some (false, f, s))); iexact HC
    isplitr; · iapply (ctx_inv m K (Cert.Gather.dst f c, some (true, f, s))); iexact HC
    isplitl [Hs]; · iexact Hs
    isplitl [Hd]; · unfold slotPts; iexact Hd
    isplitl [HO]; · iexact HO
    isplitl [HtS]; · iexact HtS
    isplitr; · iapply (ctx_reached m K (c, some (false, f, s))); iexact HC
    isplitl [HtR]; · iexact HtR
    iapply (ctx_reached m K (Cert.Gather.dst f c, some (true, f, s))); iexact HC
  iintro ⟨Hcr, HO⟩
  iapply Hk
  isplitl [HO]; · iexists _; iexact HO
  isplitl [Hat] <;> iassumption

omit [FloatOps F] in
/-- If nothing is to be sent nothing is owed for it. -/
theorem send_skip (hg : sends f s c = false) (l : List (Flow × Step)) :
    iprop(owesE c (dues c ((f, s) :: l)) ∗ sendPre f s c ∗ lent m f s c) ⊢ (iprop(owesE c (dues c l) ∗ sendMid m f s c) : sProp 𝕄) := by
  have h0 : dues c ((f, s) :: l) = dues c l := by show dues c l + due c (f, s) = _; unfold due; rw [hg]; exact add_zero _
  unfold sendPre sendMid
  rw [h0, hg, if_neg Bool.false_ne_true]
  iintro ⟨HO, ⟨Hat, -⟩, Hl⟩
  isplitl [HO]; · iexact HO
  isplitl [Hat]; · iexact Hat
  iexact Hl

/-- The flows along the axis lend at the first step the half of the shard; -/
theorem lent_shard (h : f.val < 2) (h0 : s.val = 0) : ∃ q, lent m f s c = halfPts m c q := by
  obtain rfl : s = 0 := Fin.ext h0
  obtain rfl | rfl : f = 0 ∨ f = 1 := (show f.val = 0 ∨ f.val = 1 by omega).imp Fin.ext Fin.ext
  · exact ⟨_, rfl⟩
  · exact ⟨_, rfl⟩

/-- in all other cases a slot is passed on. -/
theorem lent_slot (h : ¬ (f.val < 2 ∧ s.val = 0)) (hg : sends f s c = true) :
    ∃ q, lent m f s c = slotPts c (sent f s c) q (brought m (yc c)) := by
  have along : ∀ (i : Fin 2) (t : Fin 2), sends (i.castLE (by omega)) t.succ c = true →
      arrived m (i.castLE (by omega)) t.castSucc fullShare.left c = slotPts c (sent (i.castLE (by omega)) t.succ c) fullShare.left (brought m (yc c)) := fun i t hs => by
    unfold arrived; rw [given_true (sends_next i t c hs).1, (sends_next i t c hs).2]
  have over : ∀ (i : Fin 2), sends (i.natAdd 2) s c = true →
      arrived m (i.castLE (by omega)) s fullShare.right c = slotPts c (sent (i.natAdd 2) s c) fullShare.right (brought m (yc c)) := fun i hs => by
    unfold arrived; rw [given_true ((sends_across i s c).1 ▸ hs), (sends_across i s c).2 hs]
  match f, s, h, hg with
  | 0, 0, h, _ => exact absurd ⟨by decide, rfl⟩ h
  | 1, 0, h, _ => exact absurd ⟨by decide, rfl⟩ h
  | 0, 1, _, hg => exact ⟨_, along 0 0 hg⟩
  | 0, 2, _, hg => exact ⟨_, along 0 1 hg⟩
  | 1, 1, _, hg => exact ⟨_, along 1 0 hg⟩
  | 1, 2, _, hg => exact ⟨_, along 1 1 hg⟩
  | 2, s, _, hg => exact ⟨_, over 0 hg⟩
  | 3, s, _, hg => exact ⟨_, over 1 hg⟩

/-- A transfer of a slot is started. -/
theorem slot_lift (hp : ¬ (f.val < 2 ∧ s.val = 0)) (hg : sends f s c = true) {n : Dev nD} (hn : n = Cert.Gather.dst f c)
    {sS sR : DmaSem sig} (hsS : sS = sendSem f s) (hsR : sR = recvSem f s)
    {off : Fin 2 → ℕ} (hoff : off = slotOff (sent f s c)) {inb inb' : ∀ a, off a + S1024x512.size a ≤ S8192x512.size a}
    {hsc : (oM.slice (Rect.unit (s := S8192x512) off S1024x512.size inb') (fun _ => rfl)).view.ref.isScScratch = false}
    {hsrc : (oM.slice (Rect.unit (s := S8192x512) off S1024x512.size inb) (fun _ => rfl)).view.WordExact}
    {hdst : (oM.slice (Rect.unit (s := S8192x512) off S1024x512.size inb') (fun _ => rfl)).view.WordExact}
    {hsem : DmaTarget.Typed .vmem (.dma sR) (.remote (Dev.tc n : Thread nD τ) (oM.slice (Rect.unit (s := S8192x512) off S1024x512.size inb') (fun _ => rfl)) (.dma sS) hsc)}
    (i : ℕ) (hi : order.drop i = (f, s) :: order.drop (i + 1)) {α : Type} {k : PUnit → Prog (TpuEff nD τ sig (Elt F) Λ₀ .tc) α} {Q : α → sProp 𝕄} :
    ctx m K ⊢ iprop(owesE c (dues c (order.drop i)) -∗ sendPre f s c -∗ lent m f s c -∗ ((owesE c (dues c (order.drop (i + 1))) ∗ sendMid m f s c) -∗ run c (k ⟨⟩) Q)
      -∗ run c (do
          Prog.lift (.enqueueDma (oM.slice (Rect.unit (s := S8192x512) off S1024x512.size inb) (fun _ => rfl))
            (.remote (Dev.tc n : Thread nD τ) (oM.slice (Rect.unit (s := S8192x512) off S1024x512.size inb') (fun _ => rfl)) (.dma sS) hsc) (.dma sR) hsrc hdst hsem)
          k ⟨⟩) Q) := by
  rw [hi]
  subst hoff
  obtain ⟨q, hq⟩ := lent_slot m f s c hp hg
  iintro #HC HO Hpre Hl Hk
  simp only [Prog.lift, Prog.bind_op, Prog.bind_ret, Prog.pure_eq_ret]
  iapply (send_start m K f s c hg n hn hsS hsR rfl (src := slotM (sent f s c)) (q := q) (g := brought m (yc c)) hq
    (fun fd j hj => landed_slot _ fd _ hj) (order.drop (i + 1))) $$ HC HO Hpre Hl
  iintro HP
  iapply Hk $$ HP

/-- The block that starts a transfer of a slot, if one is to leave. -/
theorem slot_block (hp : ¬ (f.val < 2 ∧ s.val = 0)) {b : BitVec 1} (hb : b = 1#1 ↔ sends f s c = true) {n : b = 1#1 → Dev nD} (hn : ∀ h, n h = Cert.Gather.dst f c)
    {sS sR : b = 1#1 → DmaSem sig} (hsS : ∀ h, sS h = sendSem f s) (hsR : ∀ h, sR h = recvSem f s)
    {off : Fin 2 → ℕ} (hoff : b = 1#1 → off = slotOff (sent f s c)) {inb inb' : b = 1#1 → ∀ a, off a + S1024x512.size a ≤ S8192x512.size a}
    {hsc : ∀ h : b = 1#1, (oM.slice (Rect.unit (s := S8192x512) off S1024x512.size (inb' h)) (fun _ => rfl)).view.ref.isScScratch = false}
    {hsrc : ∀ h, (oM.slice (Rect.unit (s := S8192x512) off S1024x512.size (inb h)) (fun _ => rfl)).view.WordExact}
    {hdst : ∀ h, (oM.slice (Rect.unit (s := S8192x512) off S1024x512.size (inb' h)) (fun _ => rfl)).view.WordExact}
    {hsem : ∀ h : b = 1#1, DmaTarget.Typed .vmem (.dma (sR h)) (.remote (Dev.tc (n h) : Thread nD τ) (oM.slice (Rect.unit (s := S8192x512) off S1024x512.size (inb' h)) (fun _ => rfl)) (.dma (sS h)) (hsc h))}
    (i : ℕ) (hi : order.drop i = (f, s) :: order.drop (i + 1)) {α : Type} {k : PUnit → Prog (TpuEff nD τ sig (Elt F) Λ₀ .tc) α} {Q : α → sProp 𝕄} :
    ctx m K ⊢ iprop(owesE c (dues c (order.drop i)) -∗ sendPre f s c -∗ lent m f s c -∗ ((owesE c (dues c (order.drop (i + 1))) ∗ sendMid m f s c) -∗ run c (k ⟨⟩) Q)
      -∗ run c (if h : b = 1#1 then (do
          Prog.lift (.enqueueDma (oM.slice (Rect.unit (s := S8192x512) off S1024x512.size (inb h)) (fun _ => rfl))
            (.remote (Dev.tc (n h) : Thread nD τ) (oM.slice (Rect.unit (s := S8192x512) off S1024x512.size (inb' h)) (fun _ => rfl)) (.dma (sS h)) (hsc h)) (.dma (sR h)) (hsrc h) (hdst h) (hsem h))
          k ⟨⟩)
        else k ⟨⟩) Q) := by
  by_cases h : b = 1#1
  · rw [dif_pos h]
    exact slot_lift m K f s c hp (hb.mp h) (hn h) (hsS h) (hsR h) (hoff h) i hi
  · rw [dif_neg h, hi]
    iintro #HC HO Hpre Hl Hk
    iapply Hk
    iapply (send_skip m f s c (by rw [← Bool.not_eq_true]; exact fun hg => h (hb.mpr hg)) (order.drop (i + 1)))
    isplitl [HO]; · iexact HO
    isplitl [Hpre] <;> iassumption

/-- The block that starts the transfer of half the shard, if it is to leave. -/
theorem shard_block (hp : f.val < 2 ∧ s.val = 0) {b : BitVec 1} (hb : b = 1#1 ↔ sends f s c = true) {n : b = 1#1 → Dev nD} (hn : ∀ h, n h = Cert.Gather.dst f c)
    {sS sR : b = 1#1 → DmaSem sig} (hsS : ∀ h, sS h = sendSem f s) (hsR : ∀ h, sR h = recvSem f s)
    {off off' : Fin 2 → ℕ} (hoff : b = 1#1 → off = halfOff c) (hoff' : b = 1#1 → off' = slotOff (sent f s c))
    {inb : b = 1#1 → ∀ a, off a + S1024x512.size a ≤ S2048x512.size a} {inb' : b = 1#1 → ∀ a, off' a + S1024x512.size a ≤ S8192x512.size a}
    {hsc : ∀ h : b = 1#1, (oM.slice (Rect.unit (s := S8192x512) off' S1024x512.size (inb' h)) (fun _ => rfl)).view.ref.isScScratch = false}
    {hsrc : ∀ h, (xM.slice (Rect.unit (s := S2048x512) off S1024x512.size (inb h)) (fun _ => rfl)).view.WordExact}
    {hdst : ∀ h, (oM.slice (Rect.unit (s := S8192x512) off' S1024x512.size (inb' h)) (fun _ => rfl)).view.WordExact}
    {hsem : ∀ h : b = 1#1, DmaTarget.Typed .vmem (.dma (sR h)) (.remote (Dev.tc (n h) : Thread nD τ) (oM.slice (Rect.unit (s := S8192x512) off' S1024x512.size (inb' h)) (fun _ => rfl)) (.dma (sS h)) (hsc h))}
    (i : ℕ) (hi : order.drop i = (f, s) :: order.drop (i + 1)) {α : Type} {k : PUnit → Prog (TpuEff nD τ sig (Elt F) Λ₀ .tc) α} {Q : α → sProp 𝕄} :
    ctx m K ⊢ iprop(owesE c (dues c (order.drop i)) -∗ sendPre f s c -∗ lent m f s c -∗ ((owesE c (dues c (order.drop (i + 1))) ∗ sendMid m f s c) -∗ run c (k ⟨⟩) Q)
      -∗ run c (if h : b = 1#1 then (do
          Prog.lift (.enqueueDma (xM.slice (Rect.unit (s := S2048x512) off S1024x512.size (inb h)) (fun _ => rfl))
            (.remote (Dev.tc (n h) : Thread nD τ) (oM.slice (Rect.unit (s := S8192x512) off' S1024x512.size (inb' h)) (fun _ => rfl)) (.dma (sS h)) (hsc h)) (.dma (sR h)) (hsrc h) (hdst h) (hsem h))
          k ⟨⟩)
        else k ⟨⟩) Q) := by
  rw [hi]
  by_cases h : b = 1#1
  · rw [dif_pos h]
    have ho := hoff h
    have ho' := hoff' h
    subst ho; subst ho'
    obtain ⟨q, hq⟩ := lent_shard m f s c hp.1 hp.2
    iintro #HC HO Hpre Hl Hk
    simp only [Prog.lift, Prog.bind_op, Prog.bind_ret, Prog.pure_eq_ret]
    iapply (send_start m K f s c (hb.mp h) (n h) (hn h) (hsS h) (hsR h) rfl (src := halfM c) (q := q) (g := shard m c) hq
      (fun fd j hj => landed_shard m c _ (sent_own f s c hp.1 hp.2) fd hj) (order.drop (i + 1))) $$ HC HO Hpre Hl
    iintro HP
    iapply Hk $$ HP
  · rw [dif_neg h]
    iintro #HC HO Hpre Hl Hk
    iapply Hk
    iapply (send_skip m f s c (by rw [← Bool.not_eq_true]; exact fun hg => h (hb.mpr hg)) (order.drop (i + 1)))
    isplitl [HO]; · iexact HO
    isplitl [Hpre] <;> iassumption

/-! ## A block of two halves -/

omit [FloatOps F] in
/-- A block is run from `P` to `P'` if its text is, and if `P'` may be had from `P` where the text is left out. -/
theorem split_block {b : BitVec 1} {α : Type} {T : b = 1#1 → Prog (TpuEff nD τ sig (Elt F) Λ₀ .tc) α} {k : PUnit → Prog (TpuEff nD τ sig (Elt F) Λ₀ .tc) α} {Q : α → sProp 𝕄}
    (P P' : sProp 𝕄) (hT : ∀ h, ctx m K ⊢ iprop(P -∗ (P' -∗ run c (k ⟨⟩) Q) -∗ run c (T h) Q)) (hF : ¬ b = 1#1 → iprop(ctx m K ∗ P) ⊢ |={Set.univ}=> P') :
    ctx m K ⊢ iprop(P -∗ (P' -∗ run c (k ⟨⟩) Q) -∗ run c (if h : b = 1#1 then T h else k ⟨⟩) Q) := by
  by_cases h : b = 1#1
  · rw [dif_pos h]; exact hT h
  · rw [dif_neg h]
    iintro #HC HP Hk
    unfold run
    imod (hF h) $$ [HP] with HP
    · isplitr; · iexact HC
      iexact HP
    iapply Hk $$ HP

/-! ## Waiting for a transfer to have left -/

omit [FloatOps F] in
/-- A slice of half a block's shape is credited as one. -/
theorem credit_slice (off : Fin 2 → ℕ) (inb : ∀ a, off a + S1024x512.size a ≤ S8192x512.size a) :
    (oM.slice (Rect.unit (s := S8192x512) off S1024x512.size inb) (fun _ => rfl)).view.dmaCredit = N := rfl

/-- The block: wait if something has been sent. By then nothing is owed. -/
theorem drain_block {b : BitVec 1} (hb : b = 1#1 ↔ sends f s c = true) {sm : b = 1#1 → DmaSem sig} {off : Fin 2 → ℕ}
    {inb : b = 1#1 → ∀ a, off a + S1024x512.size a ≤ S8192x512.size a} {hsrc hdst : ∀ h, (oM.slice (Rect.unit (s := S8192x512) off S1024x512.size (inb h)) (fun _ => rfl)).view.WordExact}
    (hsm : ∀ h, sm h = sendSem f s) {α : Type} {k : PUnit → Prog (TpuEff nD τ sig (Elt F) Λ₀ .tc) α} {Q : α → sProp 𝕄} :
    ctx m K ⊢ iprop(owesE c (dues c (order.drop 12)) -∗ sendMid m f s c -∗ ((owesE c (dues c (order.drop 12)) ∗ sendPost m f s c) -∗ run c (k ⟨⟩) Q)
      -∗ run c (if h : b = 1#1 then (do
          Prog.lift (.waitDma2 (sm h) (oM.slice (Rect.unit (s := S8192x512) off S1024x512.size (inb h)) (fun _ => rfl))
            (oM.slice (Rect.unit (s := S8192x512) off S1024x512.size (inb h)) (fun _ => rfl)) (hsrc h) (hdst h))
          k ⟨⟩)
        else k ⟨⟩) Q) := by
  unfold sendMid sendPost
  by_cases h : b = 1#1
  · rw [dif_pos h, if_pos (hb.mp h), hsm h]
    have hd : (Rd m).duties (sendCell f s c) 0 = {0} := by rw [duties_send, if_pos (hb.mp h)]
    unfold owesE run
    iintro #HC ⟨%W, HO⟩ ⟨Hat, Hcr⟩ Hk
    simp only [Prog.lift, Prog.bind_op, Prog.bind_ret, Prog.pure_eq_ret]
    iapply (Rounds.wp_wait_rest_token 𝒱₀ ER (Rd m) (c : Thread nD τ) none (κ := K (c, some (false, f, s)))
        (wpE_waitDma2_eq 𝒱₀ (c : Thread nD τ) none Set.univ) (Set.mem_univ _) () (O := dues c (order.drop 12)) (W := W) (R := 0) (m := 0) (T := ∅)
        ((Nat.zero_add _).trans ((credit_slice off (inb h)).trans (expect_xfer m c (sendSem f s) hd).symm))) $$ [Hcr HO Hat]
    · rw [credit_slice]
      isplitr; · iapply (ctx_inv m K (c, some (false, f, s))); iexact HC
      isplitl [Hcr]; · iexact Hcr
      isplitl [HO]; · iexact HO
      isplitr; · iapply (ctx_mayWait m K c (.dma (sendSem f s)) (order.drop 12) (fun _ hp => absurd hp List.not_mem_nil)); iexact HC
      iexact Hat
    iintro ⟨HO, Hat, -, Hpay⟩
    ihave Hp := (Entails.of_eq ((rest_xfer m c (sendSem f s) hd).trans (show _ = lent m f s c by rw [kind_send]; rfl))) $$ Hpay
    imod (close m K (c, some (false, f, s)) (0 + 1) (duties_later m _)) $$ [Hat] with Hz
    · isplitr; · iexact HC
      iexact Hat
    iapply Hk
    isplitl [HO]; · iexists _; iexact HO
    isplitl [Hz]; · iexact Hz
    iexact Hp
  · have hg : sends f s c = false := by rw [← Bool.not_eq_true]; exact fun hg => h (hb.mpr hg)
    rw [dif_neg h, hg, if_neg Bool.false_ne_true]
    iintro #HC HO ⟨Hat, Hl⟩ Hk
    unfold run
    imod (close m K (c, some (false, f, s)) 0 (idle m _ (by show (Rd m).duties (sendCell f s c) 0 = ∅; rw [duties_send, hg]; rfl))) $$ [Hat] with Hz
    · isplitr; · iexact HC
      iexact Hat
    iapply Hk
    isplitl [HO]; · iexact HO
    isplitl [Hz]; · iexact Hz
    iexact Hl

end Blocks

end Cert.KernelIdeal.Gather

end
-- ==== Proof.KernelIdeal.Pieces.lean ====
/-
# The buffers, in pieces

The output buffer falls into the device's own block and the slots that arrive; the input buffer into the two shares of the half that
is sent, and the rest. Here the buffers are taken apart at the start and put together at the end.
-/
module

public import proofs.«01_k».proof.Proof.KernelIdeal.Steps

@[expose] public section

noncomputable section

namespace Cert.KernelIdeal.Gather

open Cert.KernelIdeal Cert.KernelIdeal.Gen
open Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (K : Dev nD × Key → ℕ) (c : Dev nD)

/-! ## Families over the flows and steps -/

/-- A family over all transfers. -/
def grid (Φ : Flow → Step → sProp 𝕄) : sProp 𝕄 := bigSep Finset.univ fun f => bigSep Finset.univ fun s => Φ f s

omit [FloatOps F] in
theorem grid_eq (Φ : Flow → Step → sProp 𝕄) : grid Φ = iprop((Φ 0 0 ∗ Φ 0 1 ∗ Φ 0 2) ∗ (Φ 1 0 ∗ Φ 1 1 ∗ Φ 1 2) ∗ (Φ 2 0 ∗ Φ 2 1 ∗ Φ 2 2) ∗ (Φ 3 0 ∗ Φ 3 1 ∗ Φ 3 2)) := by
  have steps (Ψ : Step → sProp 𝕄) : bigSep Finset.univ Ψ = iprop(Ψ 0 ∗ Ψ 1 ∗ Ψ 2) := by
    rw [bigSep_univ_eq_bigSepL [0, 1, 2] (by decide) (by decide), bigSepL_cons_cons, bigSepL_cons_cons, bigSepL_singleton]; rfl
  unfold grid
  rw [bigSep_univ_eq_bigSepL [0, 1, 2, 3] (by decide) (by decide), bigSepL_cons_cons, bigSepL_cons_cons, bigSepL_cons_cons, bigSepL_singleton,
    steps, steps, steps, steps]
  rfl
omit [FloatOps F] in
theorem grid_sep (Φ Ψ : Flow → Step → sProp 𝕄) : grid (fun f s => iprop(Φ f s ∗ Ψ f s)) = iprop(grid Φ ∗ grid Ψ) := by
  unfold grid
  rw [← bigSep_sep']
  exact bigSep_congr fun f _ => bigSep_sep' _ _ _
omit [FloatOps F] in
theorem grid_mono {Φ Ψ : Flow → Step → sProp 𝕄} (h : ∀ f s, Φ f s ⊢ Ψ f s) : grid Φ ⊢ grid Ψ :=
  bigSep_mono fun f _ => bigSep_mono fun s _ => h f s
omit [FloatOps F] in
theorem rooms_eq (Φ : Flow → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]
  rfl

omit [FloatOps F] in
/-- The slots are the two of the own block and those that arrive. -/
theorem slots_sep (Φ : Slot → sProp 𝕄) :
    bigSep Finset.univ Φ = iprop(Φ (own c 0) ∗ Φ (own c 1) ∗ grid fun f s => given (gets f s c) (Φ (got f s c))) := by
  have h1 := own_notMem c 1
  have h0 : own c 0 ∉ insert (own c 1) ((arrivals c).image fun p => got p.1 p.2 c) := fun h => by
    rcases Finset.mem_insert.mp h with h | h
    · exact own_injective c h
    · exact own_notMem c 0 h
  rw [slots_eq c, bigSep_insert h0, bigSep_insert h1, bigSep_image_of_injOn (fun p hp q hq h => got_injOn c p hp q hq h)]
  unfold arrivals
  rw [bigSep_filter, bigSep_univ_prod]
  rfl

/-! ## The output buffer -/

/-- The device's own block. -/
def ownPts (f : S8192x512.Idx → Elt F .bf16) : sProp 𝕄 := oM.view.loc (c : Thread nD τ) ↦[ownSet c]{fullShare} f

omit [FloatOps F] in
theorem out_slots (f : S8192x512.Idx → Elt F .bf16) :
    (oM.view.loc (c : Thread nD τ) ↦{fullShare} f : sProp 𝕄) = bigSep Finset.univ fun j => slotPts c j fullShare f := by
  unfold slotPts
  rw [← pointsTo_biUnion (ℓ := oM.view.loc (c : Thread nD τ)) Finset.univ slotSet fun j _ k _ h => slot_disjoint h]
  exact congrArg (fun S => (oM.view.loc (c : Thread nD τ) ↦[S]{fullShare} f : sProp 𝕄)) slot_cover.symm

omit [FloatOps F] in
theorem own_slots (f : S8192x512.Idx → Elt F .bf16) :
    (ownPts c f : sProp 𝕄) ⊣⊢ iprop(slotPts c (own c 0) fullShare f ∗ slotPts c (own c 1) fullShare f) := by
  unfold ownPts ownSet slotPts
  exact pointsTo_union (slot_disjoint (own_injective c))

omit [FloatOps F] in
/-- At the start: the own block, and for each flow the slots it is to fill, which its sender is to be handed. -/
theorem out_split (f : S8192x512.Idx → Elt F .bf16) :
    (oM.view.loc (c : Thread nD τ) ↦{fullShare} f : sProp 𝕄)
      ⊢ iprop(ownPts c f ∗ room 0 (org 0 c) ∗ room 1 (org 1 c) ∗ room 2 (org 2 c) ∗ room 3 (org 3 c)) := by
  rw [← rooms_eq fun f => (room f (org f c) : sProp 𝕄), out_slots, slots_sep c]
  iintro ⟨H0, H1, Hg⟩
  isplitl [H0 H1]
  · iapply (own_slots c f).2
    isplitl [H0] <;> iassumption
  iapply (show (grid fun g s => given (gets g s c) (slotPts c (got g s c) fullShare f) : sProp 𝕄) ⊢ bigSep Finset.univ fun g => room g (org g c) from
    bigSep_mono fun g _ => by
      unfold room
      refine bigSep_mono fun s _ => ?_
      unfold aim slotAny
      rw [dst_org, show sends g s (org g c) = gets g s c from rfl, show sent g s (org g c) = got g s c from rfl]
      beta_reduce
      by_cases h : gets g s c = true
      · rw [given_true h, given_true h]
        exact exists_intro (Φ := fun f' => slotPts c (got g s c) fullShare f') f
      · rw [given_false (by simpa using h), given_false (by simpa using h)]; exact Entails.refl _) $$ Hg

/-- At the end: the own block and all arrivals are the gathered array. -/
theorem out_join :
    iprop(ownPts c (gathered m c) ∗ grid fun f s => arrived m f s fullShare c) ⊢ (oM.view.loc (c : Thread nD τ) ↦{fullShare} gathered m c : sProp 𝕄) := by
  rw [out_slots, slots_sep c]
  have there (f : Flow) (s : Step) : (arrived m f s fullShare c : sProp 𝕄) ⊢ given (gets f s c) (slotPts c (got f s c) fullShare (gathered m c)) := by
    unfold arrived
    by_cases h : gets f s c = true
    · rw [given_true h, given_true h]
      unfold slotPts
      refine Entails.of_eq (pointsTo_congr (ℓ := oM.view.loc (c : Thread nD τ)) (I := slotSet (got f s c)) fun i hi => (gathered_of_notMem m c fun ho => ?_).symm)
      have hm : got f s c ∈ (arrivals c).image fun p => got p.1 p.2 c :=
        Finset.mem_image.mpr ⟨(f, s), Finset.mem_filter.mpr ⟨Finset.mem_univ _, h⟩, rfl⟩
      have ne (k : Fin 2) : got f s c ≠ own c k := fun e => own_notMem c k (e ▸ hm)
      rcases Finset.mem_union.mp ho with ho | ho
      · exact Finset.disjoint_left.mp (slot_disjoint (ne 0)) hi ho
      · exact Finset.disjoint_left.mp (slot_disjoint (ne 1)) hi ho
    · rw [given_false (by simpa using h), given_false (by simpa using h)]
  iintro ⟨Ho, Hg⟩
  ihave Ho := (own_slots c (gathered m c)).1 $$ Ho
  icases Ho with ⟨H0, H1⟩
  isplitl [H0]; · iexact H0
  isplitl [H1]; · iexact H1
  iapply (grid_mono there) $$ Hg

/-! ## The input buffer -/

/-- The half that is not sent. -/
def restPts : sProp 𝕄 := xM.view.loc (c : Thread nD τ) ↦[Finset.univ \ (halfM c).view.set]{fullShare} shard m c
def shardPts : sProp 𝕄 := xM.view.loc (c : Thread nD τ) ↦{fullShare} shard m c

theorem shard_split : (shardPts m c : sProp 𝕄) ⊣⊢ iprop((lent m 0 0 c ∗ lent m 1 0 c) ∗ restPts m c) := by
  have h : (shardPts m c : sProp 𝕄) ⊣⊢ iprop(halfPts m c fullShare ∗ restPts m c) := pointsTo_split_subset (Finset.subset_univ _)
  have h' : (halfPts m c fullShare : sProp 𝕄) ⊣⊢ iprop(lent m 0 0 c ∗ lent m 1 0 c) := by
    show (halfPts m c fullShare : sProp 𝕄) ⊣⊢ iprop(halfPts m c fullShare.left ∗ halfPts m c fullShare.right)
    unfold halfPts
    exact pointsTo_share (PosShare.mem_left_op_right fullShare)
  refine ⟨h.1.trans (sep_mono_left h'.1), (sep_mono_left h'.2).trans h.2⟩

end Cert.KernelIdeal.Gather

end
-- ==== Proof.KernelIdeal.Table.lean ====
/-
# Which block of the body serves which transfer

The program decides by arithmetic on its own device number whether a block applies, where the slot it moves lies and which device
it goes to. The tables list these expressions in program order, beside the flow and step they serve; that they agree with the
traffic of `Mesh` is decided over the sixteen devices.
-/
module

public import proofs.«01_k».proof.Proof.KernelIdeal.Contents

@[expose] public section

noncomputable section

namespace Cert.KernelIdeal.Gather

open Cert.KernelIdeal Cert.KernelIdeal.Gen
open Cert.Gather
open Idealize.ShloMosaic

/-! ## The three signals -/

theorem signal_dev : ∀ c : Dev nD, k0_dev1 c = (dst 2 c).val ∧ k0_dev2 c = (dst 0 c).val ∧ k0_dev3 c = (dst 1 c).val := by decide +kernel

theorem own_off : ∀ c : Dev nD, k0_off1 c = ownOff c := by decide +kernel

/-! ## The twelve transfers started -/

def startOf : Fin 12 → Flow × Step := ![(0, 0), (1, 0), (0, 1), (2, 0), (1, 1), (3, 0), (0, 2), (2, 1), (1, 2), (3, 1), (2, 2), (3, 2)]
def startCond : Fin 12 → Dev nD → BitVec 1 :=
  ![k0_cond1, k0_cond2, k0_cond4, k0_cond5, k0_cond7, k0_cond8, k0_cond10, k0_cond11, k0_cond13, k0_cond14, k0_cond15, k0_cond16]
def startOff : Fin 12 → Dev nD → Fin 2 → ℕ :=
  ![k0_off2, k0_off4, k0_off7, k0_off8, k0_off10, k0_off11, k0_off13, k0_off14, k0_off16, k0_off17, k0_off18, k0_off19]
def startDev : Fin 12 → Dev nD → ℕ :=
  ![k0_dev4, k0_dev5, k0_dev6, k0_dev7, k0_dev8, k0_dev9, k0_dev10, k0_dev11, k0_dev12, k0_dev13, k0_dev14, k0_dev15]

theorem start_cond : ∀ i (c : Dev nD), startCond i c = 1#1 ↔ sends (startOf i).1 (startOf i).2 c = true := by decide +kernel
theorem start_off : ∀ i (c : Dev nD), startCond i c = 1#1 → startOff i c = slotOff (sent (startOf i).1 (startOf i).2 c) := by decide +kernel
theorem start_dev : ∀ i (c : Dev nD), startCond i c = 1#1 → startDev i c = (dst (startOf i).1 c).val := by decide +kernel

theorem half_off : ∀ c : Dev nD, k0_off3 c = halfOff c ∧ k0_off5 c = halfOff c := by decide +kernel

/-! ## The twelve arrivals waited for -/

def recvOf : Fin 12 → Flow × Step := ![(0, 0), (1, 0), (0, 1), (1, 1), (0, 2), (1, 2), (2, 0), (3, 0), (2, 1), (3, 1), (2, 2), (3, 2)]
def recvCond : Fin 12 → Dev nD → BitVec 1 :=
  ![k0_cond3, k0_cond6, k0_cond9, k0_cond12, k0_cond15, k0_cond16, k0_cond17, k0_cond18, k0_cond19, k0_cond20, k0_cond21, k0_cond22]

theorem recv_cond : ∀ i (c : Dev nD), recvCond i c = 1#1 ↔ gets (recvOf i).1 (recvOf i).2 c = true := by decide +kernel

/-! ## The twelve departures waited for -/

def drainOf : Fin 12 → Flow × Step := ![(0, 0), (1, 0), (2, 0), (3, 0), (0, 1), (1, 1), (2, 1), (3, 1), (0, 2), (1, 2), (2, 2), (3, 2)]
def drainCond : Fin 12 → Dev nD → BitVec 1 :=
  ![k0_cond23, k0_cond24, k0_cond25, k0_cond26, k0_cond27, k0_cond28, k0_cond29, k0_cond30, k0_cond31, k0_cond32, k0_cond33, k0_cond34]

theorem drain_cond : ∀ i (c : Dev nD), drainCond i c = 1#1 ↔ sends (drainOf i).1 (drainOf i).2 c = true := by decide +kernel

end Cert.KernelIdeal.Gather

end
-- ==== Proof.KernelIdeal.Open.lean ====
/-
# The opening: the handshake and the device's own block

A device tells each of its three neighbours that its buffer is there, handing over the slots that neighbour is to fill, and waits for
their word; then it writes its own block and starts the first transfer.
-/
module

public import proofs.«01_k».proof.Proof.KernelIdeal.Pieces
public import proofs.«01_k».proof.Proof.KernelIdeal.Table

@[expose] public section

noncomputable section

namespace Cert.KernelIdeal.Gather

open Cert.KernelIdeal Cert.KernelIdeal.Gen
open Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (K : Dev nD × Key → ℕ) (c : Dev nD)

/-! ## The handshake -/

/-- One signal: a duty of a neighbour's barrier is paid. -/
theorem signal_step (d : Fin 3) {e n : Dev nD} (hn : n = e) {O₀ : CellTallies nD τ sig Unit} (O : CellTallies nD τ sig Unit) (hO : O₀ = O + tallyAt (barCell e) () 1) {α : Type}
    {p : Prog (TpuEff nD τ sig (Elt F) Λ₀ .tc) α} {Q : α → sProp 𝕄} :
    ctx m K ⊢ iprop(owesE c O₀ -∗ dutyTok ER (barCell e) 0 d -∗ barPay d e -∗ (owesE c O -∗ run c p Q)
      -∗ run c (do semSignalWord n barS 1#32; p) Q) := by
  subst hn
  unfold owesE run
  iintro #HC ⟨%W, HO⟩ Ht Hp Hk
  simp only [semSignalWord, Prog.bind_op, Prog.bind_ret, Prog.pure_eq_ret]
  iapply (Rounds.wp_signal 𝒱₀ ER (Rd m) (c : Thread nD τ) none (dst := (n : Thread nD τ)) (κ := K (n, none)) (r := 0) (d := d)
    (by rw [duties_bar]; exact Finset.mem_univ _) (show 1 = (1#32).toInt.toNat by decide) () O hO) $$ [HO Ht Hp]
  · isplitr; · iapply (ctx_inv m K (n, none)); iexact HC
    isplitl [HO]; · iexact HO
    isplitl [Ht]; · iexact Ht
    isplitl [Hp]; · rw [payload_bar]; iexact Hp
    iapply (ctx_reached m K (n, none)); iexact HC
  iintro HO
  iapply Hk
  iexists _; iexact HO

/-- The wait for all three: the neighbours' slots are handed over. -/
theorem wait_step {α : Type} {p : Prog (TpuEff nD τ sig (Elt F) Λ₀ .tc) α} {Q : α → sProp 𝕄} :
    ctx m K ⊢ iprop(owesE c (dues c (order.drop 0)) -∗ (atPos ER (barCell c) 0 ∅ 0 ∗ cred (tallyAt (barCell c) () 3))
      -∗ ((owesE c (dues c (order.drop 0)) ∗ semVal (barCell c) 0 ∗ room 0 c ∗ room 1 c ∗ room 2 c ∗ room 3 c) -∗ run c p Q)
      -∗ run c (do semWaitWord barS 3#32; p) Q) := by
  unfold owesE run
  iintro #HC ⟨%W, HO⟩ ⟨Hat, Hcr⟩ Hk
  simp only [semWaitWord, Prog.bind_op, Prog.bind_ret, Prog.pure_eq_ret]
  iapply (Rounds.wp_wait_rest_token 𝒱₀ ER (Rd m) (c : Thread nD τ) none (κ := K (c, none))
      (wpE_semWait_eq 𝒱₀ (c : Thread nD τ) none Set.univ) (Set.mem_univ _) () (O := dues c (order.drop 0)) (W := W) (R := 0) (m := 0) (T := ∅)
      (by rw [expect_bar]; decide)) $$ [Hcr HO Hat]
  · isplitr; · iapply (ctx_inv m K (c, none)); iexact HC
    isplitl [Hcr]; · iexact Hcr
    isplitl [HO]; · iexact HO
    isplitr
    · iapply (ctx_mayWait m K c (.reg barS) (order.drop 0) (fun x _ => rank_pos x.1 x.2)); iexact HC
    iexact Hat
  iintro ⟨HO, Hat, -, Hpay⟩
  ihave Hp := (Entails.of_eq (rest_bar m c)) $$ Hpay
  icases Hp with ⟨⟨H2, H3⟩, H0, H1⟩
  imod (close m K (c, none) (0 + 1) (duties_later m _)) $$ [Hat] with Hz
  · isplitr; · iexact HC
    iexact Hat
  iapply Hk
  isplitl [HO]; · iexists _; iexact HO
  iframe
  iexact Hz

/-- The neighbours a device hears from are those it tells. -/
theorem org_near : ∀ c : Dev nD, org 0 c = dst 1 c ∧ org 1 c = dst 0 c ∧ org 2 c = dst 2 c ∧ org 3 c = dst 2 c := by decide

/-! ## The pieces of the transfers to start -/

/-- What a transfer to start has before the handshake: all but the slot it aims at. -/
def sendTok (f : Flow) (s : Step) (c : Dev nD) : sProp 𝕄 := iprop(atPos ER (sendCell f s c) 0 ∅ 0 ∗ dutyTok ER (sendCell f s c) 0 0
  ∗ dutyTok ER (recvCell f s (Cert.Gather.dst f c)) 0 0)

omit [FloatOps F] in
theorem arm : iprop((grid fun f s => sendTok f s c) ∗ room 0 c ∗ room 1 c ∗ room 2 c ∗ room 3 c) ⊢ (grid fun f s => sendPre f s c : sProp 𝕄) := by
  rw [← rooms_eq fun f => (room f c : sProp 𝕄), show (bigSep Finset.univ fun f => (room f c : sProp 𝕄)) = grid fun f s => aim f s c from rfl, ← grid_sep]
  refine grid_mono fun f s => ?_
  unfold sendTok sendPre
  iintro ⟨⟨H1, H2, H3⟩, H4⟩
  iframe

/-! ## Its own block -/

omit [FloatOps F] in
theorem zeros : (![0, 0] : Fin 2 → ℕ) = fun _ => 0 := funext fun a => by fin_cases a <;> rfl

/-- The shard is read. -/
theorem read_step {inb : ∀ a, (![0, 0] : Fin 2 → ℕ) a + S2048x512.size a ≤ S2048x512.size a}
    {hl : (xM : Memref sig .tc .vmem S2048x512 .bf16).view.LoadsAt (Rect.unit (s := S2048x512) ![0, 0] S2048x512.size inb).toLoadRect} {α : Type}
    {k : Vec F S2048x512 .bf16 → Prog (TpuEff nD τ sig (Elt F) Λ₀ .tc) α} {Q : α → sProp 𝕄} :
    ⊢ iprop(shardPts m c -∗ (shardPts m c -∗ run c (k (shard m c)) Q)
      -∗ run c (do let v ← Prog.lift (.load xM (Rect.unit (s := S2048x512) ![0, 0] S2048x512.size inb).toLoadRect hl); k v) Q) := by
  unfold run shardPts
  iintro Hx Hk
  simp only [Prog.lift, Prog.bind_op, Prog.bind_ret, Prog.pure_eq_ret]
  iapply (wp_load 𝒱₀ (c : Thread nD τ) none Set.univ (m := xM) (S := Finset.univ) (Finset.subset_univ _)) $$ Hx
  iintro Hx
  have hr : xM.view.readAt (Elt F) (Rect.unit (s := S2048x512) ![0, 0] S2048x512.size inb).toLoadRect (shard m c) = shard m c :=
    Memref.readAt_unit_zero (Elt F) cc0_stg0_0 zeros inb (shard m c)
  have hk := Entails.of_eq (congrArg (fun v => run c (k v) Q) hr.symm)
  unfold run at hk
  iapply hk
  iapply Hk $$ Hx

/-- The block's old contents are read, and dropped; -/
theorem peek_step {off : Fin 2 → ℕ} (ho : off = ownOff c) {inb : ∀ a, off a + S2048x512.size a ≤ S8192x512.size a}
    {hl : (oM : Memref sig .tc .vmem S8192x512 .bf16).view.LoadsAt (Rect.unit (s := S8192x512) off S2048x512.size inb).toLoadRect} {α : Type}
    {p : Prog (TpuEff nD τ sig (Elt F) Λ₀ .tc) α} {Q : α → sProp 𝕄} {f : S8192x512.Idx → Elt F .bf16} :
    ⊢ iprop(ownPts c f -∗ (ownPts c f -∗ run c p Q)
      -∗ run c (do let _ ← Prog.lift (.load oM (Rect.unit (s := S8192x512) off S2048x512.size inb).toLoadRect hl); p) Q) := by
  subst ho
  unfold run ownPts
  iintro Hx Hk
  simp only [Prog.lift, Prog.bind_op, Prog.bind_ret, Prog.pure_eq_ret]
  iapply (wp_load_rect 𝒱₀ (c : Thread nD τ) none Set.univ (m := oM) (r := Rect.unit (s := S8192x512) (ownOff c) S2048x512.size (ownOff_inb c))
    (S := ownSet c) (own_access c).subset) $$ Hx
  iintro Hx
  iapply Hk $$ Hx

/-- the shard is written there. -/
theorem write_step {off : Fin 2 → ℕ} (ho : off = ownOff c) {inb : ∀ a, off a + S2048x512.size a ≤ S8192x512.size a}
    {hx : ((oM : Memref sig .tc .vmem S8192x512 .bf16).access (Rect.unit (s := S8192x512) off S2048x512.size inb)).Stores Finset.univ}
    {hm : (Finset.univ : Finset S2048x512.Idx) = Finset.univ ∨ ∀ a, (Rect.unit (s := S8192x512) off S2048x512.size inb).stride a = 1} {α : Type}
    {p : Prog (TpuEff nD τ sig (Elt F) Λ₀ .tc) α} {Q : α → sProp 𝕄} {f : S8192x512.Idx → Elt F .bf16} :
    ⊢ iprop(ownPts c f -∗ (ownPts c (gathered m c) -∗ run c p Q)
      -∗ run c (do Prog.lift (.store oM (Rect.unit (s := S8192x512) off S2048x512.size inb) (k0_pay1 (shard m c)) Finset.univ hx hm); p) Q) := by
  subst ho
  unfold run ownPts
  iintro Ho Hk
  simp only [Prog.lift, Prog.bind_op, Prog.bind_ret, Prog.pure_eq_ret]
  iapply (wp_store 𝒱₀ (c : Thread nD τ) none Set.univ (m := oM) (r := Rect.unit (s := S8192x512) (ownOff c) S2048x512.size (ownOff_inb c)) (Mk := Finset.univ)
    (S := ownSet c) ((View.setOn_univ _).trans (own_access c)).subset) $$ Ho
  iintro Ho
  rw [show k0_pay1 (shard m c) = shard m c from shapeCast_self _ _]
  ihave Ho := (Entails.of_eq (pointsTo_congr (ℓ := oM.view.loc (c : Thread nD τ)) (I := ownSet c) (g := gathered m c) fun i hi => stored_own m c f hi)) $$ Ho
  iapply Hk $$ Ho

/-- What the fourth part starts from. -/
def openPre (f : S8192x512.Idx → Elt F .bf16) : sProp 𝕄 :=
  iprop(shardPts m c ∗ (ownPts c f ∗ room 0 (org 0 c) ∗ room 1 (org 1 c) ∗ room 2 (org 2 c) ∗ room 3 (org 3 c))
    ∗ (dutyTok ER (barCell (Cert.Gather.dst 2 c)) 0 0 ∗ dutyTok ER (barCell (Cert.Gather.dst 0 c)) 0 2 ∗ dutyTok ER (barCell (Cert.Gather.dst 1 c)) 0 1)
    ∗ (atPos ER (barCell c) 0 ∅ 0 ∗ cred (tallyAt (barCell c) () 3)) ∗ grid fun f s => sendTok f s c)

set_option maxHeartbeats 1000000 in
/-- The fourth part: the handshake, the device's own block, and the first transfer. -/
theorem part4_run (f : S8192x512.Idx → Elt F .bf16) (v2 v5 v8 v20 v31 v34 : BitVec 32) {Q : BitVec 1 → sProp 𝕄} :
    ctx m K ⊢ iprop(owesE c (dues₀ c) -∗ openPre m c f
      -∗ (∀ a, (owesE c (dues c (order.drop 1)) ∗ semVal (barCell c) 0 ∗ ownPts c (gathered m c) ∗ restPts m c ∗ lent m 1 0 c
          ∗ (sendMid m 0 0 c ∗ sendPre 0 1 c ∗ sendPre 0 2 c) ∗ (sendPre 1 0 c ∗ sendPre 1 1 c ∗ sendPre 1 2 c)
          ∗ (sendPre 2 0 c ∗ sendPre 2 1 c ∗ sendPre 2 2 c) ∗ (sendPre 3 0 c ∗ sendPre 3 1 c ∗ sendPre 3 2 c)) -∗ Q a)
      -∗ run c (k0_part4 (Memref.whole cc0_stg0_0) (Memref.isWhole_whole _) (Memref.whole cc0_stg1_0) (Memref.isWhole_whole _)
        cc0_scratch0 cc0_scratch1 cc0_scratch2 cc0_scratch3 cc0_scratch4 cc0_scratch5 cc0_scratch6 cc0_scratch7
        c v2 v5 v8 v20 v31 (SemArray.scalar (sig.barrier 0 rfl)) v34) Q) := by
  rw [k0_part4_eq_skeleton]; unfold k0_part4_skel openPre
  extract_lets
  obtain ⟨e0, e1, e2, e3⟩ := org_near c
  obtain ⟨d1, d2, d3⟩ := signal_dev c
  rw [e0, e1, e2, e3]
  iintro #HC HO ⟨Hx, ⟨Ho, Hm0, Hm1, Hm2, Hm3⟩, ⟨Ht2, Ht0, Ht1⟩, Hbar, Hg⟩ Hk
  ihave Hm2 := (show iprop(room 2 (Cert.Gather.dst 2 c) ∗ room 3 (Cert.Gather.dst 2 c)) ⊢ (barPay 0 (Cert.Gather.dst 2 c) : sProp 𝕄) from Entails.refl _) $$ [Hm2 Hm3]
  · isplitl [Hm2] <;> iassumption
  ihave Hm1 := (show room 1 (Cert.Gather.dst 0 c) ⊢ (barPay 2 (Cert.Gather.dst 0 c) : sProp 𝕄) from Entails.refl _) $$ Hm1
  ihave Hm0 := (show room 0 (Cert.Gather.dst 1 c) ⊢ (barPay 1 (Cert.Gather.dst 1 c) : sProp 𝕄) from Entails.refl _) $$ Hm0
  iapply (signal_step m K c 0 (e := Cert.Gather.dst 2 c) (Fin.ext d1) (O₀ := dues₀ c) (dues₂ c) rfl) $$ HC HO Ht2 Hm2
  iintro HO
  iapply (signal_step m K c 2 (e := Cert.Gather.dst 0 c) (Fin.ext d2) (O₀ := dues₂ c) (dues₁ c) rfl) $$ HC HO Ht0 Hm1
  iintro HO
  iapply (signal_step m K c 1 (e := Cert.Gather.dst 1 c) (Fin.ext d3) (O₀ := dues₁ c) (dues c (order.drop 0)) rfl) $$ HC HO Ht1 Hm0
  iintro HO
  iapply (wait_step m K c) $$ HC HO Hbar
  iintro ⟨HO, Hz, Hr⟩
  ihave Hg := (arm c) $$ [Hg Hr]
  · isplitl [Hg] <;> iassumption
  ihave Hg := (Entails.of_eq (grid_eq _)) $$ Hg
  icases Hg with ⟨⟨H00, H01, H02⟩, H1, H2, H3⟩
  iapply (read_step m c) $$ Hx
  iintro Hx
  iapply (peek_step c (own_off c)) $$ Ho
  iintro Ho
  iapply (write_step m c (own_off c)) $$ Ho
  iintro Ho
  ihave Hx := (shard_split m c).1 $$ Hx
  icases Hx with ⟨⟨Hl00, Hl10⟩, Hx⟩
  iapply (shard_block m K 0 0 c (by decide) (start_cond 0 c) (fun h => Fin.ext (start_dev 0 c h)) (fun _ => rfl) (fun _ => rfl)
    (fun _ => (half_off c).1) (start_off 0 c) 0 rfl) $$ HC HO H00 Hl00
  iintro ⟨HO, H00⟩
  iapply (run_ret c _ Q)
  iapply Hk
  iframe

end Cert.KernelIdeal.Gather

end
-- ==== Proof.KernelIdeal.Parts.lean ====
/-
# The parts of the body

The body comes in parts. Each is run from the pieces it uses to the pieces it leaves, block by block.
-/
module

public import proofs.«01_k».proof.Proof.KernelIdeal.Steps
public import proofs.«01_k».proof.Proof.KernelIdeal.Table

@[expose] public section

noncomputable section

namespace Cert.KernelIdeal.Gather

open Cert.KernelIdeal Cert.KernelIdeal.Gen
open Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (K : Dev nD × Key → ℕ) (c : Dev nD)

omit [FloatOps F] in
/-- What has arrived is split into two shares, one to be lent along the axis and one across. -/
theorem arrived_split (f : Flow) (s : Step) :
    (arrived m f s fullShare c : sProp 𝕄) ⊣⊢ iprop(arrived m f s fullShare.left c ∗ arrived m f s fullShare.right c) := by
  unfold arrived given slotPts
  split
  · exact pointsTo_share (PosShare.mem_left_op_right fullShare)
  · exact (sep_emp (PROP := sProp 𝕄)).symm

omit [FloatOps F] in
/-- What a flow along the axis brings is lent twice: to the flow's next step, and to the flow that takes it across. -/
theorem pass_on {f g : Flow} {s t : Step} (hf : (lent m f t c : sProp 𝕄) = arrived m f s fullShare.left c)
    (hg : (lent m g s c : sProp 𝕄) = arrived m f s fullShare.right c) :
    (arrived m f s fullShare c : sProp 𝕄) ⊣⊢ iprop(lent m f t c ∗ lent m g s c) := by
  rw [hf, hg]; exact arrived_split m c f s

/-- The fifth part: the second half of the shard leaves, the first arrivals are passed on. -/
theorem part5_run (v2 v5 v8 v9 v20 v31 : BitVec 32) (v64 : BitVec 1) {Q : (Σ' (_ : BitVec 1), BitVec 32) → sProp 𝕄} :
    ctx m K ⊢ iprop(owesE c (dues c (order.drop 1)) -∗ (sendPre 1 0 c ∗ lent m 1 0 c ∗ recvPre 0 0 c ∗ sendPre 0 1 c ∗ sendPre 2 0 c ∗ recvPre 1 0 c ∗ sendPre 1 1 c)
      -∗ (∀ a, (owesE c (dues c (order.drop 5)) ∗ sendMid m 1 0 c ∗ semVal (recvCell 0 0 c) 0 ∗ sendMid m 0 1 c ∗ sendMid m 2 0 c ∗ semVal (recvCell 1 0 c) 0 ∗ sendMid m 1 1 c ∗ lent m 3 0 c) -∗ Q a)
      -∗ run c (k0_part5 (Memref.whole cc0_stg0_0) (Memref.isWhole_whole _) (Memref.whole cc0_stg1_0) (Memref.isWhole_whole _)
        cc0_scratch0 cc0_scratch1 cc0_scratch2 cc0_scratch3 cc0_scratch4 cc0_scratch5 cc0_scratch6 cc0_scratch7
        c v2 v5 v8 v9 v20 v31 v64) Q) := by
  rw [k0_part5_eq_skeleton]; unfold k0_part5_skel
  extract_lets
  iintro #HC HO ⟨Hs10, Hl10, Hr00, Hs01, Hs20, Hr10, Hs11⟩ Hk
  iapply (shard_block m K 1 0 c (by decide) (start_cond 1 c) (fun h => Fin.ext (start_dev 1 c h)) (fun _ => rfl) (fun _ => rfl)
    (fun _ => (half_off c).2) (start_off 1 c) 1 rfl) $$ HC HO Hs10 Hl10
  iintro ⟨HO, Hs10⟩
  iapply (recv_block m K 0 0 c (recv_cond 0 c) (fun _ => rfl) 2 (by decide)) $$ HC HO Hr00
  iintro ⟨HO, Hz00, Ha00⟩
  ihave Ha00 := (pass_on m c (f := 0) (g := 2) (s := 0) (t := 1) rfl rfl).1 $$ Ha00
  icases Ha00 with ⟨Hl01, Hl20⟩
  iapply (slot_block m K 0 1 c (by decide) (start_cond 2 c) (fun h => Fin.ext (start_dev 2 c h)) (fun _ => rfl) (fun _ => rfl)
    (start_off 2 c) 2 rfl) $$ HC HO Hs01 Hl01
  iintro ⟨HO, Hs01⟩
  iapply (slot_block m K 2 0 c (by decide) (start_cond 3 c) (fun h => Fin.ext (start_dev 3 c h)) (fun _ => rfl) (fun _ => rfl)
    (start_off 3 c) 3 rfl) $$ HC HO Hs20 Hl20
  iintro ⟨HO, Hs20⟩
  iapply (recv_block m K 1 0 c (recv_cond 1 c) (fun _ => rfl) 4 (by decide)) $$ HC HO Hr10
  iintro ⟨HO, Hz10, Ha10⟩
  ihave Ha10 := (pass_on m c (f := 1) (g := 3) (s := 0) (t := 1) rfl rfl).1 $$ Ha10
  icases Ha10 with ⟨Hl11, Hl30⟩
  iapply (slot_block m K 1 1 c (by decide) (start_cond 4 c) (fun h => Fin.ext (start_dev 4 c h)) (fun _ => rfl) (fun _ => rfl)
    (start_off 4 c) 4 rfl) $$ HC HO Hs11 Hl11
  iintro ⟨HO, Hs11⟩
  iapply (run_ret c _ Q)
  iapply Hk
  iframe

/-- The sixth part: the second arrivals. -/
theorem part6_run (v2 v5 v8 v9 v20 v31 : BitVec 32) (v96 : BitVec 1) (c2 : BitVec 32) {Q : PUnit → sProp 𝕄} :
    ctx m K ⊢ iprop(owesE c (dues c (order.drop 5)) -∗ (sendPre 3 0 c ∗ lent m 3 0 c ∗ recvPre 0 1 c ∗ sendPre 0 2 c ∗ sendPre 2 1 c ∗ recvPre 1 1 c)
      -∗ (∀ a, (owesE c (dues c (order.drop 8)) ∗ sendMid m 3 0 c ∗ semVal (recvCell 0 1 c) 0 ∗ sendMid m 0 2 c ∗ sendMid m 2 1 c ∗ semVal (recvCell 1 1 c) 0 ∗ lent m 1 2 c ∗ lent m 3 1 c) -∗ Q a)
      -∗ run c (k0_part6 (Memref.whole cc0_stg0_0) (Memref.isWhole_whole _) (Memref.whole cc0_stg1_0) (Memref.isWhole_whole _)
        cc0_scratch0 cc0_scratch1 cc0_scratch2 cc0_scratch3 cc0_scratch4 cc0_scratch5 cc0_scratch6 cc0_scratch7
        c v2 v5 v8 v9 v20 v31 v96 c2) Q) := by
  rw [k0_part6_eq_skeleton]; unfold k0_part6_skel
  extract_lets
  iintro #HC HO ⟨Hs30, Hl30, Hr01, Hs02, Hs21, Hr11⟩ Hk
  iapply (slot_block m K 3 0 c (by decide) (start_cond 5 c) (fun h => Fin.ext (start_dev 5 c h)) (fun _ => rfl) (fun _ => rfl)
    (start_off 5 c) 5 rfl) $$ HC HO Hs30 Hl30
  iintro ⟨HO, Hs30⟩
  iapply (recv_block m K 0 1 c (recv_cond 2 c) (fun _ => rfl) 6 (by decide)) $$ HC HO Hr01
  iintro ⟨HO, Hz01, Ha01⟩
  ihave Ha01 := (pass_on m c (f := 0) (g := 2) (s := 1) (t := 2) rfl rfl).1 $$ Ha01
  icases Ha01 with ⟨Hl02, Hl21⟩
  iapply (slot_block m K 0 2 c (by decide) (start_cond 6 c) (fun h => Fin.ext (start_dev 6 c h)) (fun _ => rfl) (fun _ => rfl)
    (start_off 6 c) 6 rfl) $$ HC HO Hs02 Hl02
  iintro ⟨HO, Hs02⟩
  iapply (slot_block m K 2 1 c (by decide) (start_cond 7 c) (fun h => Fin.ext (start_dev 7 c h)) (fun _ => rfl) (fun _ => rfl)
    (start_off 7 c) 7 rfl) $$ HC HO Hs21 Hl21
  iintro ⟨HO, Hs21⟩
  iapply (recv_block m K 1 1 c (recv_cond 3 c) (fun _ => rfl) 8 (by decide)) $$ HC HO Hr11
  iintro ⟨HO, Hz11, Ha11⟩
  ihave Ha11 := (pass_on m c (f := 1) (g := 3) (s := 1) (t := 2) rfl rfl).1 $$ Ha11
  icases Ha11 with ⟨Hl12, Hl31⟩
  iapply (run_ret c _ Q)
  iapply Hk
  iframe

/-- The last arrivals along the axis are waited for in a text of their own; -/
theorem part1_run (v2 v5 v8 v9 v31 : BitVec 32) (h : k0_cond15 c = 1#1) {Q : (Σ' (_ : BitVec 32), BitVec 32) → sProp 𝕄} :
    ctx m K ⊢ iprop(owesE c (dues c (order.drop 10)) -∗ recvPre 0 2 c -∗ (∀ a, (owesE c (dues c (order.drop 10)) ∗ recvPost m 0 2 c) -∗ Q a)
      -∗ run c (k0_part1 (Memref.whole cc0_stg0_0) (Memref.isWhole_whole _) (Memref.whole cc0_stg1_0) (Memref.isWhole_whole _)
        cc0_scratch0 cc0_scratch1 cc0_scratch2 cc0_scratch3 cc0_scratch4 cc0_scratch5 cc0_scratch6 cc0_scratch7
        c v2 v5 v8 v9 v31 h) Q) := by
  rw [k0_part1_eq_skeleton]; unfold k0_part1_skel
  extract_lets
  iintro #HC HO Hr Hk
  iapply (recv_wait m K 0 2 c ((recv_cond 4 c).mp h) rfl (credit_slice _ (k0_off18_inb c h)) (order.drop 10) (by decide)) $$ HC HO Hr
  iintro HP
  iapply (run_ret c _ Q)
  iapply Hk $$ HP

/-- so on the other side. -/
theorem part2_run (v2 v5 v8 v9 v20 : BitVec 32) (h : k0_cond16 c = 1#1) {Q : (Σ' (_ : BitVec 32), BitVec 32) → sProp 𝕄} :
    ctx m K ⊢ iprop(owesE c (dues c (order.drop 11)) -∗ recvPre 1 2 c -∗ (∀ a, (owesE c (dues c (order.drop 11)) ∗ recvPost m 1 2 c) -∗ Q a)
      -∗ run c (k0_part2 (Memref.whole cc0_stg0_0) (Memref.isWhole_whole _) (Memref.whole cc0_stg1_0) (Memref.isWhole_whole _)
        cc0_scratch0 cc0_scratch1 cc0_scratch2 cc0_scratch3 cc0_scratch4 cc0_scratch5 cc0_scratch6 cc0_scratch7
        c v2 v5 v8 v9 v20 h) Q) := by
  rw [k0_part2_eq_skeleton]; unfold k0_part2_skel
  extract_lets
  iintro #HC HO Hr Hk
  iapply (recv_wait m K 1 2 c ((recv_cond 5 c).mp h) rfl (credit_slice _ (k0_off19_inb c h)) (order.drop 11) (by decide)) $$ HC HO Hr
  iintro HP
  iapply (run_ret c _ Q)
  iapply Hk $$ HP

/-- Where nothing arrives to be taken across, nothing is. -/
theorem relay_skip {f g : Flow} {b : BitVec 1} (hb : b = 1#1 ↔ gets f 2 c = true) (hb' : b = 1#1 ↔ sends g 2 c = true)
    (hl : (lent m g 2 c : sProp 𝕄) = arrived m f 2 fullShare.right c) (i : ℕ) (hi : order.drop i = (g, 2) :: order.drop (i + 1)) (h : ¬ b = 1#1) :
    iprop(ctx m K ∗ owesE c (dues c (order.drop i)) ∗ recvPre f 2 c ∗ sendPre g 2 c) ⊢ |={Set.univ}=>
      (iprop(owesE c (dues c (order.drop (i + 1))) ∗ semVal (recvCell f 2 c) 0 ∗ arrived m f 2 fullShare.left c ∗ sendMid m g 2 c) : sProp 𝕄) := by
  rw [hi]
  iintro ⟨#HC, HO, Hr, Hs⟩
  imod (recv_skip m K f 2 c (by rw [← Bool.not_eq_true]; exact fun hg => h (hb.mpr hg))) $$ [Hr] with Hr
  · isplitr; · iexact HC
    iexact Hr
  icases Hr with ⟨Hz, Ha⟩
  ihave Ha := (arrived_split m c f 2).1 $$ Ha
  icases Ha with ⟨Hh, Hl⟩
  ihave Hl := (Entails.of_eq hl.symm) $$ Hl
  ihave HP := (send_skip m g 2 c (by rw [← Bool.not_eq_true]; exact fun hg => h (hb'.mpr hg)) (order.drop (i + 1))) $$ [HO Hs Hl]
  · iframe
  icases HP with ⟨HO, Hs⟩
  imodintro
  iframe

/-- The seventh part: the last transfers start. -/
theorem part7_run (v2 v5 v8 v9 v20 v31 : BitVec 32) {Q : (Σ' (_ : BitVec 1), BitVec 32) → sProp 𝕄} :
    ctx m K ⊢ iprop(owesE c (dues c (order.drop 8)) -∗ (sendPre 1 2 c ∗ lent m 1 2 c ∗ sendPre 3 1 c ∗ lent m 3 1 c ∗ recvPre 0 2 c ∗ sendPre 2 2 c ∗ recvPre 1 2 c ∗ sendPre 3 2 c ∗ recvPre 2 0 c
        ∗ recvPre 3 0 c)
      -∗ (∀ a, (owesE c (dues c (order.drop 12)) ∗ sendMid m 1 2 c ∗ sendMid m 3 1 c ∗ semVal (recvCell 0 2 c) 0 ∗ arrived m 0 2 fullShare.left c ∗ sendMid m 2 2 c ∗ semVal (recvCell 1 2 c) 0
        ∗ arrived m 1 2 fullShare.left c ∗ sendMid m 3 2 c ∗ semVal (recvCell 2 0 c) 0 ∗ arrived m 2 0 fullShare c ∗ semVal (recvCell 3 0 c) 0
        ∗ arrived m 3 0 fullShare c) -∗ Q a)
      -∗ run c (k0_part7 (Memref.whole cc0_stg0_0) (Memref.isWhole_whole _) (Memref.whole cc0_stg1_0) (Memref.isWhole_whole _)
        cc0_scratch0 cc0_scratch1 cc0_scratch2 cc0_scratch3 cc0_scratch4 cc0_scratch5 cc0_scratch6 cc0_scratch7
        c v2 v5 v8 v9 v20 v31) Q) := by
  rw [k0_part7_eq_skeleton]; unfold k0_part7_skel
  extract_lets
  iintro #HC HO ⟨Hs12, Hl12, Hs31, Hl31, Hr02, Hs22, Hr12, Hs32, Hr20, Hr30⟩ Hk
  iapply (slot_block m K 1 2 c (by decide) (start_cond 8 c) (fun h => Fin.ext (start_dev 8 c h)) (fun _ => rfl) (fun _ => rfl)
    (start_off 8 c) 8 rfl) $$ HC HO Hs12 Hl12
  iintro ⟨HO, Hs12⟩
  iapply (slot_block m K 3 1 c (by decide) (start_cond 9 c) (fun h => Fin.ext (start_dev 9 c h)) (fun _ => rfl) (fun _ => rfl)
    (start_off 9 c) 9 rfl) $$ HC HO Hs31 Hl31
  iintro ⟨HO, Hs31⟩
  iapply (split_block m K c iprop(owesE c (dues c (order.drop 10)) ∗ recvPre 0 2 c ∗ sendPre 2 2 c)
    iprop(owesE c (dues c (order.drop 11)) ∗ semVal (recvCell 0 2 c) 0 ∗ arrived m 0 2 fullShare.left c ∗ sendMid m 2 2 c) (hT := ?_) (hF := ?_)) $$ HC [HO Hr02 Hs22]
  · intro h
    iintro #HC ⟨HO, Hr, Hs⟩ Hk
    iapply (run_seq c)
    iapply (part1_run m K c) $$ HC HO Hr
    iintro %a ⟨HO, Hz, Ha⟩
    cases a
    ihave Ha := (arrived_split m c 0 2).1 $$ Ha
    icases Ha with ⟨Hh, Hl⟩
    ihave Hl := (Entails.of_eq (show (arrived m 0 2 fullShare.right c : sProp 𝕄) = lent m 2 2 c from rfl)) $$ Hl
    iapply (slot_lift m K 2 2 c (by decide) ((start_cond 10 c).mp h) (Fin.ext (start_dev 10 c h)) rfl rfl (start_off 10 c h) 10 rfl) $$ HC HO Hs Hl
    iintro ⟨HO, Hs⟩
    iapply Hk
    iframe
  · intro h
    exact relay_skip m K c (b := k0_cond15 c) (recv_cond 4 c) (start_cond 10 c) rfl 10 rfl h
  · iframe
  iintro ⟨HO, Hz02, Hh02, Hs22⟩
  iapply (split_block m K c iprop(owesE c (dues c (order.drop 11)) ∗ recvPre 1 2 c ∗ sendPre 3 2 c)
    iprop(owesE c (dues c (order.drop 12)) ∗ semVal (recvCell 1 2 c) 0 ∗ arrived m 1 2 fullShare.left c ∗ sendMid m 3 2 c) (hT := ?_) (hF := ?_)) $$ HC [HO Hr12 Hs32]
  · intro h
    iintro #HC ⟨HO, Hr, Hs⟩ Hk
    iapply (run_seq c)
    iapply (part2_run m K c) $$ HC HO Hr
    iintro %a ⟨HO, Hz, Ha⟩
    cases a
    ihave Ha := (arrived_split m c 1 2).1 $$ Ha
    icases Ha with ⟨Hh, Hl⟩
    ihave Hl := (Entails.of_eq (show (arrived m 1 2 fullShare.right c : sProp 𝕄) = lent m 3 2 c from rfl)) $$ Hl
    iapply (slot_lift m K 3 2 c (by decide) ((start_cond 11 c).mp h) (Fin.ext (start_dev 11 c h)) rfl rfl (start_off 11 c h) 11 rfl) $$ HC HO Hs Hl
    iintro ⟨HO, Hs⟩
    iapply Hk
    iframe
  · intro h
    exact relay_skip m K c (b := k0_cond16 c) (recv_cond 5 c) (start_cond 11 c) rfl 11 rfl h
  · iframe
  iintro ⟨HO, Hz12, Hh12, Hs32⟩
  iapply (recv_block m K 2 0 c (recv_cond 6 c) (fun _ => rfl) 12 (by decide)) $$ HC HO Hr20
  iintro ⟨HO, Hz20, Ha20⟩
  iapply (recv_block m K 3 0 c (recv_cond 7 c) (fun _ => rfl) 12 (by decide)) $$ HC HO Hr30
  iintro ⟨HO, Hz30, Ha30⟩
  iapply (run_ret c _ Q)
  iapply Hk
  iframe

/-- The eighth part: the last arrivals from across; then the departures are waited for. -/
theorem part8_run (v2 v5 v8 v9 : BitVec 32) (v161 : BitVec 1) (v162 : BitVec 32) {Q : PUnit → sProp 𝕄} :
    ctx m K ⊢ iprop(owesE c (dues c (order.drop 12)) -∗ (recvPre 2 1 c ∗ recvPre 3 1 c ∗ recvPre 2 2 c ∗ recvPre 3 2 c ∗ sendMid m 0 0 c ∗ sendMid m 1 0 c)
      -∗ (∀ a, (owesE c (dues c (order.drop 12)) ∗ semVal (recvCell 2 1 c) 0 ∗ arrived m 2 1 fullShare c ∗ semVal (recvCell 3 1 c) 0 ∗ arrived m 3 1 fullShare c ∗ semVal (recvCell 2 2 c) 0
        ∗ arrived m 2 2 fullShare c ∗ semVal (recvCell 3 2 c) 0 ∗ arrived m 3 2 fullShare c ∗ sendPost m 0 0 c ∗ sendPost m 1 0 c) -∗ Q a)
      -∗ run c (k0_part8 (Memref.whole cc0_stg0_0) (Memref.isWhole_whole _) (Memref.whole cc0_stg1_0) (Memref.isWhole_whole _)
        cc0_scratch0 cc0_scratch1 cc0_scratch2 cc0_scratch3 cc0_scratch4 cc0_scratch5 cc0_scratch6 cc0_scratch7
        c v2 v5 v8 v9 v161 v162) Q) := by
  rw [k0_part8_eq_skeleton]; unfold k0_part8_skel
  extract_lets
  iintro #HC HO ⟨Hr21, Hr31, Hr22, Hr32, Hs00, Hs10⟩ Hk
  iapply (recv_block m K 2 1 c (recv_cond 8 c) (fun _ => rfl) 12 (by decide)) $$ HC HO Hr21
  iintro ⟨HO, Hz21, Ha21⟩
  iapply (recv_block m K 3 1 c (recv_cond 9 c) (fun _ => rfl) 12 (by decide)) $$ HC HO Hr31
  iintro ⟨HO, Hz31, Ha31⟩
  iapply (recv_block m K 2 2 c (recv_cond 10 c) (fun _ => rfl) 12 (by decide)) $$ HC HO Hr22
  iintro ⟨HO, Hz22, Ha22⟩
  iapply (recv_block m K 3 2 c (recv_cond 11 c) (fun _ => rfl) 12 (by decide)) $$ HC HO Hr32
  iintro ⟨HO, Hz32, Ha32⟩
  iapply (drain_block m K 0 0 c (drain_cond 0 c) (fun _ => rfl)) $$ HC HO Hs00
  iintro ⟨HO, He00⟩
  iapply (drain_block m K 1 0 c (drain_cond 1 c) (fun _ => rfl)) $$ HC HO Hs10
  iintro ⟨HO, He10⟩
  iapply (run_ret c _ Q)
  iapply Hk
  iframe

/-- The ninth part: departures. -/
theorem part9_run (v2 v8 : BitVec 32) {Q : (BitVec 1) → sProp 𝕄} :
    ctx m K ⊢ iprop(owesE c (dues c (order.drop 12)) -∗ (sendMid m 2 0 c ∗ sendMid m 3 0 c ∗ sendMid m 0 1 c ∗ sendMid m 1 1 c ∗ sendMid m 2 1 c)
      -∗ (∀ a, (owesE c (dues c (order.drop 12)) ∗ sendPost m 2 0 c ∗ sendPost m 3 0 c ∗ sendPost m 0 1 c ∗ sendPost m 1 1 c ∗ sendPost m 2 1 c) -∗ Q a)
      -∗ run c (k0_part9 (Memref.whole cc0_stg0_0) (Memref.isWhole_whole _) (Memref.whole cc0_stg1_0) (Memref.isWhole_whole _)
        cc0_scratch0 cc0_scratch1 cc0_scratch2 cc0_scratch3 cc0_scratch4 cc0_scratch5 cc0_scratch6 cc0_scratch7
        c v2 v8) Q) := by
  rw [k0_part9_eq_skeleton]; unfold k0_part9_skel
  extract_lets
  iintro #HC HO ⟨Hs20, Hs30, Hs01, Hs11, Hs21⟩ Hk
  iapply (drain_block m K 2 0 c (drain_cond 2 c) (fun _ => rfl)) $$ HC HO Hs20
  iintro ⟨HO, He20⟩
  iapply (drain_block m K 3 0 c (drain_cond 3 c) (fun _ => rfl)) $$ HC HO Hs30
  iintro ⟨HO, He30⟩
  iapply (drain_block m K 0 1 c (drain_cond 4 c) (fun _ => rfl)) $$ HC HO Hs01
  iintro ⟨HO, He01⟩
  iapply (drain_block m K 1 1 c (drain_cond 5 c) (fun _ => rfl)) $$ HC HO Hs11
  iintro ⟨HO, He11⟩
  iapply (drain_block m K 2 1 c (drain_cond 6 c) (fun _ => rfl)) $$ HC HO Hs21
  iintro ⟨HO, He21⟩
  iapply (run_ret c _ Q)
  iapply Hk
  iframe

end Cert.KernelIdeal.Gather

end
-- ==== Proof.KernelIdeal.Body.lean ====
/-
# The body

The parts in a row: from the pieces a device holds when the kernel starts to those it holds when it ends, its output staging buffer
holding the gathered array.
-/
module

public import proofs.«01_k».proof.Proof.KernelIdeal.Open
public import proofs.«01_k».proof.Proof.KernelIdeal.Parts

@[expose] public section

noncomputable section

namespace Cert.KernelIdeal.Gather

open Cert.KernelIdeal Cert.KernelIdeal.Gen
open Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (K : Dev nD × Key → ℕ) (c : Dev nD)

/-- The staging buffers and semaphores that the body is given. -/
abbrev onArgs {β : Sort _} (p : (a0 : Memref sig .tc .vmem S2048x512 .bf16) → a0.IsWhole → (a1 : Memref sig .tc .vmem S8192x512 .bf16) → a1.IsWhole
    → DmaSems sig S3 → DmaSems sig S3 → DmaSems sig S3 → DmaSems sig S3 → DmaSems sig S3 → DmaSems sig S3 → DmaSems sig S3 → DmaSems sig S3 → β) : β :=
  p (Memref.whole cc0_stg0_0) (Memref.isWhole_whole _) (Memref.whole cc0_stg1_0) (Memref.isWhole_whole _)
    cc0_scratch0 cc0_scratch1 cc0_scratch2 cc0_scratch3 cc0_scratch4 cc0_scratch5 cc0_scratch6 cc0_scratch7

/-- The third part: the device asks who it is. -/
theorem part3_run {Q : (Σ' (d0 : Dev nD) (v2 : BitVec 32) (v5 : BitVec 32) (v8 : BitVec 32) (v9 : BitVec 32) (v20 : BitVec 32) (v31 : BitVec 32) (v32 : Sems sig S_), BitVec 32) → sProp 𝕄} :
    ⊢ iprop((∀ v2 v5 v8 v9 v20 v31 v34, Q ⟨c, v2, v5, v8, v9, v20, v31, SemArray.scalar (sig.barrier 0 rfl), v34⟩) -∗ run c (onArgs k0_part3) Q) := by
  unfold onArgs
  rw [k0_part3_eq_skeleton]; unfold k0_part3_skel run
  simp only [Prog.lift, Prog.bind_op, Prog.bind_ret, Prog.pure_eq_ret, wp_deviceId, wp_ret]
  iintro Hk
  imodintro
  iapply Hk

/-- What the body leaves: the buffers, and all counters at zero. -/
def done : sProp 𝕄 :=
  iprop(shardPts m c ∗ (oM.view.loc (c : Thread nD τ) ↦{fullShare} gathered m c) ∗ semVal (barCell c) 0
    ∗ (grid fun f s => semVal (sendCell f s c) 0) ∗ grid fun f s => semVal (recvCell f s c) 0)

/-- The shares that come back are the arrivals. -/
theorem arrivals_back :
    iprop(((lent m 0 1 c ∗ lent m 2 0 c) ∗ (lent m 0 2 c ∗ lent m 2 1 c) ∗ (arrived m 0 2 fullShare.left c ∗ lent m 2 2 c))
      ∗ ((lent m 1 1 c ∗ lent m 3 0 c) ∗ (lent m 1 2 c ∗ lent m 3 1 c) ∗ (arrived m 1 2 fullShare.left c ∗ lent m 3 2 c))
      ∗ (arrived m 2 0 fullShare c ∗ arrived m 2 1 fullShare c ∗ arrived m 2 2 fullShare c)
      ∗ (arrived m 3 0 fullShare c ∗ arrived m 3 1 fullShare c ∗ arrived m 3 2 fullShare c))
      ⊢ (grid fun f s => arrived m f s fullShare c : sProp 𝕄) := by
  rw [grid_eq]
  exact BIClass.sep_mono (BIClass.sep_mono (pass_on m c rfl rfl).2 (BIClass.sep_mono (pass_on m c rfl rfl).2 (arrived_split m c 0 2).2))
    (sep_mono_left (BIClass.sep_mono (pass_on m c rfl rfl).2 (BIClass.sep_mono (pass_on m c rfl rfl).2 (arrived_split m c 1 2).2)))

set_option maxHeartbeats 1000000 in
/-- The body, run on device `c`. -/
theorem body_run (f : S8192x512.Idx → Elt F .bf16) {Q : PUnit → sProp 𝕄} :
    ctx m K ⊢ iprop(owesE c (dues₀ c) -∗ (openPre m c f ∗ grid fun f s => recvPre f s c)
      -∗ ((owesE c 0 ∗ done m c) -∗ Q ⟨⟩) -∗ run c (onArgs cc0_body) Q) := by
  unfold onArgs
  rw [cc0_body_eq_skeleton]; unfold cc0_body_skel
  extract_lets
  iintro #HC HO ⟨Hopen, Hr⟩ Hk
  ihave Hr := (Entails.of_eq (grid_eq _)) $$ Hr
  icases Hr with ⟨⟨Hr00, Hr01, Hr02⟩, ⟨Hr10, Hr11, Hr12⟩, ⟨Hr20, Hr21, Hr22⟩, ⟨Hr30, Hr31, Hr32⟩⟩
  iapply (run_seq c)
  iapply (part3_run c)
  iintro %v2 %v5 %v8 %v9 %v20 %v31 %v34
  iapply (run_seq c)
  iapply (part4_run m K c f v2 v5 v8 v20 v31 v34) $$ HC HO Hopen
  iintro %a4 ⟨HO, Hz, Hown, Hrest, Hl10, ⟨Hs00, Hs01, Hs02⟩, ⟨Hs10, Hs11, Hs12⟩, ⟨Hs20, Hs21, Hs22⟩, ⟨Hs30, Hs31, Hs32⟩⟩
  iapply (run_seq c)
  iapply (part5_run m K c v2 v5 v8 v9 v20 v31 a4) $$ HC HO [Hs10 Hl10 Hr00 Hs01 Hs20 Hr10 Hs11]
  · iframe
  iintro %a5 ⟨HO, Hs10, Hz00, Hs01, Hs20, Hz10, Hs11, Hl30⟩
  iapply (run_seq c)
  iapply (part6_run m K c v2 v5 v8 v9 v20 v31 a5.1 a5.2) $$ HC HO [Hs30 Hl30 Hr01 Hs02 Hs21 Hr11]
  · iframe
  iintro %a6 ⟨HO, Hs30, Hz01, Hs02, Hs21, Hz11, Hl12, Hl31⟩
  iapply (run_seq c)
  iapply (part7_run m K c v2 v5 v8 v9 v20 v31) $$ HC HO [Hs12 Hl12 Hs31 Hl31 Hr02 Hs22 Hr12 Hs32 Hr20 Hr30]
  · iframe
  iintro %a7 ⟨HO, Hs12, Hs31, Hz02, Hh02, Hs22, Hz12, Hh12, Hs32, Hz20, Ha20, Hz30, Ha30⟩
  iapply (run_seq c)
  iapply (part8_run m K c v2 v5 v8 v9 a7.1 a7.2) $$ HC HO [Hr21 Hr31 Hr22 Hr32 Hs00 Hs10]
  · iframe
  iintro %a8 ⟨HO, Hz21, Ha21, Hz31, Ha31, Hz22, Ha22, Hz32, Ha32, ⟨He00, Hl00⟩, ⟨He10, Hl10⟩⟩
  iapply (run_seq c)
  iapply (part9_run m K c v2 v8) $$ HC HO [Hs20 Hs30 Hs01 Hs11 Hs21]
  · iframe
  iintro %a9 ⟨HO, ⟨He20, Hl20⟩, ⟨He30, Hl30⟩, ⟨He01, Hl01⟩, ⟨He11, Hl11⟩, ⟨He21, Hl21⟩⟩
  extract_lets
  iapply (drain_block m K 3 1 c (drain_cond 7 c) (fun _ => rfl)) $$ HC HO Hs31
  iintro ⟨HO, He31, Hl31⟩
  iapply (drain_block m K 0 2 c (drain_cond 8 c) (fun _ => rfl)) $$ HC HO Hs02
  iintro ⟨HO, He02, Hl02⟩
  iapply (drain_block m K 1 2 c (drain_cond 9 c) (fun _ => rfl)) $$ HC HO Hs12
  iintro ⟨HO, He12, Hl12⟩
  iapply (drain_block m K 2 2 c (drain_cond 10 c) (fun _ => rfl)) $$ HC HO Hs22
  iintro ⟨HO, He22, Hl22⟩
  iapply (drain_block m K 3 2 c (drain_cond 11 c) (fun _ => rfl)) $$ HC HO Hs32
  iintro ⟨HO, He32, Hl32⟩
  iapply (run_ret c _ Q)
  iapply Hk
  isplitl [HO]; · iexact HO
  unfold done
  isplitl [Hl00 Hl10 Hrest]
  · iapply (shard_split m c).2
    iframe
  isplitl [Hown Hl01 Hl20 Hl02 Hl21 Hh02 Hl22 Hl11 Hl30 Hl12 Hl31 Hh12 Hl32 Ha20 Ha21 Ha22 Ha30 Ha31 Ha32]
  · iapply (out_join m c)
    isplitl [Hown]; · iexact Hown
    iapply (arrivals_back m c)
    iframe
  isplitl [Hz]; · iexact Hz
  rw [grid_eq, grid_eq]
  iframe

end Cert.KernelIdeal.Gather

end
-- ==== Proof.KernelIdeal.Cells.lean ====
/-
# The ghost state at the launch

At the launch every cell of every device gets its record, its position and its tokens, all held by the device the cell belongs to. The
tokens then go to the devices that pay the duties: a receive cell's to the device that sends into it, a barrier's to the neighbours.
-/
module

public import proofs.«01_k».proof.Proof.KernelIdeal.Body
public import proofs.«01_k».proof.Proof.Gen.KernelIdeal.Launch

@[expose] public section

noncomputable section

namespace Cert.KernelIdeal.Gather

open Cert.KernelIdeal Cert.KernelIdeal.Gen
open Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

/-! ## Families over a device's cells -/

omit [FloatOps F] in
/-- A family over the transfer semaphores: those that count what leaves, and those that count what arrives. -/
theorem xfers_eq (Φ : Bool × Flow × Step → sProp 𝕄) :
    bigSep Finset.univ Φ = iprop((grid fun f s => Φ (false, f, s)) ∗ grid fun f s => Φ (true, f, s)) := by
  rw [bigSep_univ_prod, bigSep_univ_eq_bigSepL [false, true] (by decide) (by decide), bigSepL_cons_cons, bigSepL_singleton,
    bigSep_univ_prod, bigSep_univ_prod]
  rfl

omit [FloatOps F] in
/-- A family over the cells: the barrier, and the transfer semaphores. -/
theorem keys_eq (Φ : Key → sProp 𝕄) : bigSep Finset.univ Φ = iprop(Φ none ∗ bigSep Finset.univ fun p => Φ (some p)) := by
  rw [show (Finset.univ : Finset Key) = insert none (Finset.univ.map Function.Embedding.some) from by
      ext k; cases k <;> simp,
    bigSep_insert (by simp), bigSep_map]
  rfl

theorem semOf_injective : Function.Injective semOf := by
  intro p q h
  have key : ∀ p, kind (match semOf p with | .dma q => q | .reg _ => (0 : Fin 26)) = some p := by
    rintro ⟨b, f, s⟩
    cases b
    · exact kind_send f s
    · exact kind_recv f s
  have e := key p
  rw [h, key q] at e
  exact (Option.some.inj e).symm

theorem keySem_injective : Function.Injective keySem := by
  have reg : ∀ p, keySem none ≠ semOf p := by
    rintro ⟨b, f, s⟩ h
    cases b <;> cases h
  rintro (_ | p) (_ | q) h
  · rfl
  · exact absurd h (reg q)
  · exact absurd h.symm (reg p)
  · exact congrArg some (semOf_injective h)

theorem cell_injective : Function.Injective cell := by
  rintro ⟨c, k⟩ ⟨d, l⟩ h
  have hc : c = d := congrArg (fun g : GSem nD τ sig => g.1.1) h
  have hk : k = l := keySem_injective (congrArg Prod.snd h)
  rw [hc, hk]

/-! ## What is created -/

/-- All the cells, -/
def cells : Finset (GSem nD τ sig) := Finset.univ.map ⟨cell, cell_injective⟩

/-- and a token for every duty of each. -/
def tokAt (x : (Dev nD × Key) × Fin 3) : GSem nD τ sig × ℕ × Fin 3 := (cell x.1, 0, x.2)
theorem tokAt_injective : Function.Injective tokAt := by
  rintro ⟨x, d⟩ ⟨y, e⟩ h
  have hx : x = y := cell_injective (congrArg Prod.fst h)
  have hd : d = e := congrArg (fun t : GSem nD τ sig × ℕ × Fin 3 => t.2.2) h
  rw [hx, hd]
def toks : Finset (GSem nD τ sig × ℕ × Fin 3) := Finset.univ.map ⟨tokAt, tokAt_injective⟩

def u₀ : UU := (initOf (Pipeline.cells cfgs cellOf_inj) (Pipeline.launchToks cfgs cellOf_inj), initOf cells toks)

/-- The positions of a device's cells, -/
def places (c : Dev nD) : sProp 𝕄 := bigSep Finset.univ fun k : Key => atPos ER (cell (c, k)) 0 ∅ 0
/-- that they have reached their round, -/
def atStart (c : Dev nD) : sProp 𝕄 := bigSep Finset.univ fun k : Key => reached ER (cell (c, k)) 0
/-- and their tokens. -/
def minted (c : Dev nD) : sProp 𝕄 := bigSep Finset.univ fun k : Key => bigSep Finset.univ fun d : Fin 3 => dutyTok ER (cell (c, k)) 0 d

/-- All that device `c` is dealt. -/
def G (c : Dev nD) : sProp 𝕄 :=
  iprop((bigSep Finset.univ fun k : Key => roundState ER (Rd m) (cell (c, k)) 0) ∗ atStart c ∗ places c ∗ minted c)

omit [FloatOps F] in
theorem fund_cells : BI.own (ER (initOf cells toks)) ⊢ (|==> bigSep Finset.univ (G m) : sProp 𝕄) := by
  have hc (Φ : GSem nD τ sig → sProp 𝕄) : bigSep cells Φ = bigSep Finset.univ fun c : Dev nD => bigSep Finset.univ fun k : Key => Φ (cell (c, k)) := by
    unfold cells; rw [bigSep_map, bigSep_univ_prod]; rfl
  have ht : bigSep toks (fun x => (dutyTok ER x.1 x.2.1 x.2.2 : sProp 𝕄)) = bigSep Finset.univ fun c : Dev nD => minted c := by
    unfold toks; rw [bigSep_map, bigSep_univ_prod, bigSep_univ_prod]; rfl
  refine (Rounds.fund ER (Rd m) cells toks).trans (BI.bupd_mono ?_)
  rw [hc, hc, hc, ht]
  unfold G; simp only [bigSep_sep']
  exact Entails.refl _

/-! ## The records -/

omit [FloatOps F] in
theorem ownSems_eq (c : Dev nD) : (Pipeline.ownSems0 (Ix := Unit) (Name := ℕ) (U := UU) (Lvl := ℕ) (Val := Elt F) (τ := τ) semOf c : sProp 𝕄)
    = bigSep Finset.univ fun p => semVal (cell (c, some p)) 0 := rfl
omit [FloatOps F] in
theorem unscopedSems_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The counters, at zero, become records of the schedule. -/
theorem alloc (c : Dev nD) :
    iprop(Pipeline.ownSems0 (Ix := Unit) (Name := ℕ) (U := UU) (Lvl := ℕ) (Val := Elt F) (τ := τ) semOf c ∗ unscopedSems0 c ∗ G m c)
      ⊢ |={Set.univ}=> iprop((bigSep Finset.univ fun k : Key => iprop(∃ κ : ℕ, cellInv ER (Rd m) κ (cell (c, k)))) ∗ atStart c ∗ places c ∗ minted c) := by
  have all : iprop((bigSep Finset.univ fun k : Key => semVal (cell (c, k)) 0) ∗ bigSep Finset.univ fun k : Key => roundState ER (Rd m) (cell (c, k)) 0)
      ⊢ (|={Set.univ}=> bigSep Finset.univ fun k : Key => iprop(∃ κ : ℕ, cellInv ER (Rd m) κ (cell (c, k))) : sProp 𝕄) := by
    rw [← bigSep_sep']
    exact (bigSep_mono fun k _ => (Rounds.body_intro ER (Rd m) (cell (c, k))).trans inv_alloc).trans (bigSep_fupd _ _)
  rw [ownSems_eq, unscopedSems_eq]
  unfold G
  iintro ⟨Hx, Hb, Hst, Hrest⟩
  imod all $$ [Hx Hb Hst] with Hinv
  · rw [keys_eq fun k => (semVal (cell (c, k)) 0 : sProp 𝕄)]
    isplitr [Hst]
    · isplitl [Hb]
      · iexact Hb
      · iexact Hx
    · iexact Hst
  imodintro
  isplitl [Hinv]
  · iexact Hinv
  · iexact Hrest

/-! ## Dealing the tokens out -/

/-- What device `c` holds besides the records: the tokens of its neighbours' barriers, its own barrier's position, and for each
    transfer the positions of its cells and the tokens of the cells that its own transfer signals. -/
def held (c : Dev nD) : sProp 𝕄 :=
  iprop((dutyTok ER (barCell (Cert.Gather.dst 2 c)) 0 0 ∗ dutyTok ER (barCell (Cert.Gather.dst 0 c)) 0 2 ∗ dutyTok ER (barCell (Cert.Gather.dst 1 c)) 0 1)
    ∗ atPos ER (barCell c) 0 ∅ 0 ∗ (grid fun f s => sendTok f s c) ∗ grid fun f s => atPos ER (recvCell f s c) 0 ∅ 0)

omit [FloatOps F] in
/-- The tokens that are needed, by the cell they belong to. -/
theorem minted_split (c : Dev nD) : (minted c : sProp 𝕄)
    ⊢ iprop((dutyTok ER (barCell c) 0 0 ∗ dutyTok ER (barCell c) 0 2 ∗ dutyTok ER (barCell c) 0 1)
      ∗ (grid fun f s => dutyTok ER (sendCell f s c) 0 0) ∗ grid fun f s => dutyTok ER (recvCell f s c) 0 0) := by
  have three (g : GSem nD τ sig) : (bigSep Finset.univ fun d : Fin 3 => (dutyTok ER g 0 d : sProp 𝕄)) = iprop(dutyTok ER g 0 0 ∗ dutyTok ER g 0 1 ∗ dutyTok ER g 0 2) := by
    rw [bigSep_univ_eq_bigSepL [0, 1, 2] (by decide) (by decide), bigSepL_cons_cons, bigSepL_cons_cons, bigSepL_singleton]; rfl
  unfold minted
  rw [keys_eq, xfers_eq, three]
  refine BIClass.sep_mono ?_ (BIClass.sep_mono (grid_mono fun f s => ?_) (grid_mono fun f s => ?_))
  · iintro ⟨H0, H1, H2⟩
    isplitl [H0]
    · iexact H0
    isplitl [H2]
    · iexact H2
    · iexact H1
  · exact bigSep_elim (Finset.mem_univ (0 : Fin 3))
  · exact bigSep_elim (Finset.mem_univ (0 : Fin 3))

omit [FloatOps F] in
/-- A family over the devices and the transfers, with every transfer's device moved along its flow. -/
theorem along (Φ : Flow → Step → Dev nD → sProp 𝕄) :
    (bigSep Finset.univ fun c : Dev nD => grid fun f s => Φ f s c) = bigSep Finset.univ fun c : Dev nD => grid fun f s => Φ f s (Cert.Gather.dst f c) := by
  unfold grid
  rw [bigSep_univ_comm, bigSep_univ_comm fun (c : Dev nD) (f : Flow) => bigSep Finset.univ fun s => Φ f s (Cert.Gather.dst f c)]
  exact bigSep_congr fun f _ => bigSep_univ_equiv (flow f) fun c : Dev nD => bigSep Finset.univ fun s => Φ f s c

omit [FloatOps F] in
theorem deal : iprop((bigSep Finset.univ fun c : Dev nD => places c) ∗ bigSep Finset.univ fun c : Dev nD => minted c)
    ⊢ (bigSep Finset.univ fun c : Dev nD => held c : sProp 𝕄) := by
  have hp (c : Dev nD) : (places c : sProp 𝕄) = iprop(atPos ER (barCell c) 0 ∅ 0 ∗ (grid fun f s => atPos ER (sendCell f s c) 0 ∅ 0) ∗ grid fun f s => atPos ER (recvCell f s c) 0 ∅ 0) := by
    unfold places; rw [keys_eq, xfers_eq]; rfl
  refine (sep_mono_right (bigSep_mono fun c _ => minted_split c)).trans ?_
  unfold held sendTok
  simp only [hp, grid_sep, bigSep_sep']
  rw [bigSep_univ_equiv (flow 2) fun c : Dev nD => (dutyTok ER (barCell c) 0 0 : sProp 𝕄),
    bigSep_univ_equiv (flow 0) fun c : Dev nD => (dutyTok ER (barCell c) 0 2 : sProp 𝕄),
    bigSep_univ_equiv (flow 1) fun c : Dev nD => (dutyTok ER (barCell c) 0 1 : sProp 𝕄),
    along fun f s c => (dutyTok ER (recvCell f s c) 0 0 : sProp 𝕄)]
  iintro ⟨⟨H1, H2, H3⟩, ⟨H4, H5, H6⟩, H7, H8⟩
  isplitl [H4 H5 H6]
  · isplitl [H4]
    · iexact H4
    isplitl [H5]
    · iexact H5
    · iexact H6
  isplitl [H1]
  · iexact H1
  isplitr [H3]
  · isplitl [H2]
    · iexact H2
    isplitl [H7]
    · iexact H7
    · iexact H8
  · iexact H3

/-- What device `c` starts with. -/
def G' (c : Dev nD) : sProp 𝕄 := iprop(∃ K, records m K ∗ held c)

omit [FloatOps F] in
theorem regroup :
    (bigSep Finset.univ fun c : Dev nD => iprop((bigSep Finset.univ fun k : Key => iprop(∃ κ : ℕ, cellInv ER (Rd m) κ (cell (c, k)))) ∗ atStart c ∗ places c ∗ minted c) : sProp 𝕄)
      ⊢ bigSep Finset.univ (G' m) := by
  rw [bigSep_sep', bigSep_sep', bigSep_sep', ← bigSep_univ_prod fun x : Dev nD × Key => iprop(∃ κ : ℕ, cellInv ER (Rd m) κ (cell x)),
    show (bigSep Finset.univ fun c : Dev nD => (atStart c : sProp 𝕄)) = bigSep Finset.univ fun x : Dev nD × Key => reached ER (cell x) 0 from
      (bigSep_univ_prod fun x : Dev nD × Key => (reached ER (cell x) 0 : sProp 𝕄)).symm]
  iintro ⟨HI, HR, Hrest⟩
  ihave HI := (BI.bigSep_exists_pi Finset.univ fun (x : Dev nD × Key) (κ : ℕ) => (cellInv ER (Rd m) κ (cell x) : sProp 𝕄)) $$ HI
  icases HI with ⟨%K, HI⟩
  iapply (BI.bigSep_with_persistent (R := records m K) (Φ := held) fun c _ => (exists_intro (Φ := fun K => iprop(records m K ∗ held c)) K : _ ⊢ G' m c))
  isplitr [Hrest]
  · unfold records
    isplitl [HI]
    · iexact HI
    · iexact HR
  · iapply deal
    iexact Hrest

omit [FloatOps F] in
/-- The set-up of all devices at once. -/
theorem setup : (bigSep Finset.univ fun c => iprop(Pipeline.ownSems0 (Ix := Unit) (Name := ℕ) (U := UU) (Lvl := ℕ) (Val := Elt F) (τ := τ) semOf c ∗ unscopedSems0 c ∗ G m c) : sProp 𝕄)
    ⊢ |={Set.univ}=> bigSep Finset.univ (G' m) :=
  ((bigSep_mono fun c _ => alloc m c).trans (bigSep_fupd _ _)).trans (BI.fupd_mono (regroup m))

/-! ## The credit of what is owed -/

theorem due_other {d : Dev nD} {p : Flow × Step} {f : Flow} {s : Step} {c : Dev nD} (h : p ≠ (f, s)) : due d p (recvCell f s c) () = 0 := by
  refine Nat.eq_zero_of_not_pos fun hp => h ?_
  have e : semOf (true, f, s) = semOf (true, p.1, p.2) := congrArg Prod.snd (due_pos hp)
  exact (congrArg Prod.snd (semOf_injective e)).symm

/-- Of a list of transfers only one concerns a given receive cell. -/
theorem dues_at {d : Dev nD} {f : Flow} {s : Step} {c : Dev nD} : ∀ {l : List (Flow × Step)}, l.Nodup →
    dues d l (recvCell f s c) () = if (f, s) ∈ l then due d (f, s) (recvCell f s c) () else 0
  | [], _ => rfl
  | p :: l, h => by
    have ih := dues_at (d := d) (f := f) (s := s) (c := c) (List.nodup_cons.mp h).2
    show dues d l (recvCell f s c) () + due d p (recvCell f s c) () = _
    by_cases hp : p = (f, s)
    · subst hp
      rw [ih, if_neg (List.nodup_cons.mp h).1, if_pos List.mem_cons_self, Nat.zero_add]
    · have : (f, s) ∈ p :: l ↔ (f, s) ∈ l := by
        rw [List.mem_cons]; exact ⟨fun h => h.resolve_left fun e => hp e.symm, Or.inr⟩
      rw [ih, due_other hp, Nat.add_zero]
      simp only [this]

theorem bar_owed (d c : Dev nD) (f : Flow) (g : SemLoc sig) : (tallyAt (barCell (Cert.Gather.dst f d)) () 1 : CellTallies nD τ sig Unit) ((c : Thread nD τ), g) ()
    = if g = .reg barS then (if d = org f c then 1 else 0) else 0 := by
  rw [tallyAt_apply]
  by_cases hg : g = .reg barS
  · subst hg
    rw [if_pos rfl]
    by_cases hd : d = org f c
    · rw [if_pos hd, hd, dst_org, if_pos ⟨rfl, rfl⟩]
    · rw [if_neg hd, if_neg]
      rintro ⟨h, -⟩
      have : c = Cert.Gather.dst f d := congrArg (fun g : GSem nD τ sig => g.1.1) h
      exact hd (by rw [this, org_dst])
  · rw [if_neg hg, if_neg]
    rintro ⟨h, -⟩
    exact hg (congrArg Prod.snd h)

theorem owed_split (d c : Dev nD) (g : SemLoc sig) : dues₀ d ((c : Thread nD τ), g) ()
    = dues d order ((c : Thread nD τ), g) () + (if g = .reg barS then (if d = org 1 c then 1 else 0) else 0)
      + (if g = .reg barS then (if d = org 0 c then 1 else 0) else 0) + (if g = .reg barS then (if d = org 2 c then 1 else 0) else 0) := by
  rw [← bar_owed d c 1, ← bar_owed d c 0, ← bar_owed d c 2]; rfl

/-- Every device's barrier is owed three units, -/
theorem credit_bar (c : Dev nD) : tallyOn (barCell c) (launchCredit (Pipeline.owing dues₀) 0 (barCell c)) = (tallyAt (barCell c) () 3 : CellTallies nD τ sig Unit) := by
  have none (d : Dev nD) : dues d order (barCell c) () = 0 := Nat.eq_zero_of_not_pos fun hp => by
    obtain ⟨p, -, h⟩ := dues_pos hp
    cases congrArg Prod.snd h
  unfold tallyAt; refine congrArg _ (Finsupp.ext fun u => ?_); cases u
  rw [Pipeline.launchCredit_owing, Finsupp.single_eq_same, Finset.sum_congr rfl fun d _ => owed_split d c (.reg barS)]
  simp only [none, if_true, Finset.sum_add_distrib, Finset.sum_ite_eq', Finset.mem_univ, Finset.sum_const_zero]

/-- and a receive cell the credit of a transfer, if there is one. -/
theorem credit_recv (f : Flow) (s : Step) (c : Dev nD) : tallyOn (recvCell f s c) (launchCredit (Pipeline.owing dues₀) 0 (recvCell f s c))
    = (tallyAt (recvCell f s c) () (if gets f s c then N else 0) : CellTallies nD τ sig Unit) := by
  have one (d : Dev nD) : dues₀ d (recvCell f s c) () = if d = org f c then (if gets f s c then N else 0) else 0 := by
    rw [owed_split, if_neg (fun h => by cases h), if_neg (fun h => by cases h), if_neg (fun h => by cases h)]
    show dues d order (recvCell f s c) () = _
    rw [dues_at (by decide), if_pos (show (f, s) ∈ order from by revert f s; decide)]
    unfold due
    by_cases hd : d = org f c
    · subst hd
      rw [if_pos rfl, dst_org]
      show (if sends f s (org f c) = true then tallyAt (recvCell f s c) () N else 0 : CellTallies nD τ sig Unit) (recvCell f s c) () = if sends f s (org f c) = true then N else 0
      split
      · exact tallyAt_self _ _ _
      · rfl
    · rw [if_neg hd]
      split
      · rw [tallyAt_apply, if_neg]
        rintro ⟨h, -⟩
        have : c = Cert.Gather.dst f d := congrArg (fun g : GSem nD τ sig => g.1.1) h
        exact hd (by rw [this, org_dst])
      · rfl
  unfold tallyAt; refine congrArg _ (Finsupp.ext fun u => ?_); cases u
  rw [Pipeline.launchCredit_owing, Finsupp.single_eq_same, Finset.sum_congr rfl fun d _ => one d, Finset.sum_ite_eq', if_pos (Finset.mem_univ _)]

omit [FloatOps F] in
theorem credits (c : Dev nD) : (Pipeline.launchCred dues₀ c : sProp 𝕄)
    ⊢ iprop(cred (tallyAt (barCell c) () 3) ∗ grid fun f s => given (gets f s c) (cred (tallyAt (recvCell f s c) () N))) := by
  unfold Pipeline.launchCred
  refine (bigSep_subset (Finset.subset_univ (Finset.univ.map ⟨keySem, keySem_injective⟩))).trans ?_
  rw [bigSep_map, keys_eq, xfers_eq]
  refine BIClass.sep_mono (Entails.of_eq (congrArg cred (credit_bar c))) ?_
  iintro ⟨-, H⟩
  iapply (grid_mono fun f s => ?_) $$ H
  refine (Entails.of_eq (congrArg cred (credit_recv f s c))).trans ?_
  by_cases h : gets f s c = true
  · rw [given_true h, if_pos h]
  · rw [given_false (Bool.eq_false_iff.mpr h)]
    iintro -
    iempintro

end Cert.KernelIdeal.Gather

end
-- ==== Proof.KernelIdeal.Run.lean ====
/-
# The run

The kernel launched on all sixteen devices: every device starts with what it is dealt, runs the body, and ends with its array gathered
and all counters at zero.
-/
module

public import proofs.«01_k».proof.Proof.KernelIdeal.Cells
public import proofs.«01_k».proof.Proof.Gen.KernelIdeal.Frame
public import Idealize.ShloMosaic.Lib.Pipeline.CollectiveSegs

@[expose] public section

noncomputable section

namespace Cert.KernelIdeal.Gather

open Cert.KernelIdeal Cert.KernelIdeal.Gen
open Cert.Gather
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## What a device has before and after the body -/

/-- Before: what it is dealt, the credit of what it is owed, and the levels; -/
def start (c : Dev nD) : sProp 𝕄 :=
  iprop(G' m c ∗ (cred (tallyAt (barCell c) () 3) ∗ grid fun f s => given (gets f s c) (cred (tallyAt (recvCell f s c) () N))) ∗ levAts L lv)
/-- after: its counters at zero. -/
def finish (c : Dev nD) : sProp 𝕄 :=
  iprop(semVal (barCell c) 0 ∗ (grid fun f s => semVal (sendCell f s c) 0) ∗ grid fun f s => semVal (recvCell f s c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => shard m c
    | ⟨1, _⟩ => gathered m c
  Φ t := match t with
    | ⟨0, _⟩ => start m c
    | ⟨_ + 1, _⟩ => finish c
  q _ := fullShare
  owed t := match t with
    | ⟨0, _⟩ => dues₀ c
    | ⟨_ + 1, _⟩ => 0

/-! ## The body -/

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer with the given contents. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(start m c ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))

def bodyPost (c : Dev nD) : sProp 𝕄 :=
  iprop(finish c ∗ (dats m ρ 0 c).owesAt () t0_0.succ ∗ staged c cc0_stg0_0 (shard m c) ∗ staged c cc0_stg1_0 (gathered m c))

/-- The staging buffer of the input holds the shard when the body starts. -/
theorem before_shard (c : Dev nD) (d) : (dats m ρ 0 c).before (0 : Fin 2) t0_0 d = shard m c := by
  unfold Dat.before
  rw [if_pos (show (cfg0.win (0 : Fin 2)).fetch t0_0 = true from rfl)]
  rfl

omit [FloatOps F] in
/-- What is dealt to a device is what its body asks for. -/
theorem start_open (K : Dev nD × Key → ℕ) (c : Dev nD) (f : S8192x512.Idx → Elt F .bf16) :
    iprop(held c ∗ (cred (tallyAt (barCell c) () 3) ∗ grid fun f s => given (gets f s c) (cred (tallyAt (recvCell f s c) () N)))
      ∗ shardPts m c ∗ (oM.view.loc (c : Thread nD τ) ↦{fullShare} f)) ⊢ iprop(openPre m c f ∗ grid fun f s => recvPre f s c) := by
  unfold held openPre recvPre
  rw [grid_sep]
  iintro ⟨⟨Htok, Hat, Hsend, Hrecv⟩, ⟨Hc, Hcr⟩, Hx, Ho⟩
  ihave Ho := (out_split c f) $$ Ho
  isplitr [Hrecv Hcr]
  · isplitl [Hx]
    · iexact Hx
    isplitl [Ho]
    · iexact Ho
    isplitl [Htok]
    · iexact Htok
    isplitl [Hat Hc]
    · isplitl [Hat]
      · iexact Hat
      · iexact Hc
    · iexact Hsend
  · isplitl [Hrecv]
    · iexact Hrecv
    · iexact Hcr

set_option maxRecDepth 4000 in
theorem body_meets (c : Dev nD) : bodyPre m ρ c ⊢ run c (onArgs (cc0_body (F := F))) fun _ => bodyPost m ρ c := by
  unfold bodyPre bodyPost start G' finish
  iintro ⟨⟨⟨%K, ⟨#HR, Hheld⟩⟩, Hcr, #HL⟩, Howe, ⟨%d, ⟨%x, ⟨%hx, Hx⟩⟩⟩, ⟨%e, ⟨%f, ⟨%hf, Ho⟩⟩⟩⟩
  rw [before_shard] at hx
  subst hx
  unfold Dat.owesAt Pipeline.owesWithin
  icases Howe with ⟨%W, ⟨%hW, Howe⟩⟩
  iapply (body_run m K c f) $$ [] [Howe] [Hheld Hcr Hx Ho]
  · unfold ctx
    isplitl
    · iexact HR
    · iexact HL
  · unfold owesE
    iexists W
    iexact Howe
  · iapply (start_open m K c f)
    isplitl [Hheld]
    · iexact Hheld
    isplitl [Hcr]
    · iexact Hcr
    isplitl [Hx]
    · unfold shardPts
      iexact Hx
    · iexact Ho
  · unfold owesE done shardPts
    iintro ⟨⟨%W', Howe⟩, Hx, Ho, Hsems⟩
    isplitl [Hsems]
    · iexact Hsems
    isplitl [Howe]
    · iexists W'
      isplitr
      · ipureintro; exact fun _ _ => Or.inl trivial
      · iexact Howe
    isplitl [Hx]
    · iexists (shard m c)
      isplitr
      · ipureintro; rfl
      · iexact Hx
    · iexists (gathered m c)
      isplitr
      · ipureintro; rfl
      · iexact Ho

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole]
  exact body_meets m ρ c

/-! ## The side conditions of the launch -/

theorem ownSemFacts : Pipeline.OwnSemFacts cfg0.spec semOf := by decide

theorem share_full (c : Dev nD) (w : Fin cfg0.W) : (dats m ρ 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts L lv
        ∗ Pipeline.launchCred dues₀ c ∗ prngReg c (ρ c) ∗ G' m c)
      ⊢ |={Set.univ}=> iprop(start m c ∗ emp) := by
  iintro ⟨-, Hlev, Hcr, -, HG⟩
  ihave Hcr := (credits (F := F) c) $$ Hcr
  imodintro
  unfold start
  isplitl
  · isplitl [HG]
    · iexact HG
    isplitl [Hcr]
    · iexact Hcr
    · iexact Hlev
  · iempintro

theorem start_enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m c from rfl]
  iintro ⟨H, -, -⟩
  iexact H

theorem finish_exit (c : Dev nD) :
    (dats m ρ 0 c).Φ (Fin.last cfg0.N) ⊢ iprop(unscopedSems0 c ∗ Pipeline.ownSems0 semOf c ∗ Pipeline.scopedRest cfg0.spec c) := by
  rw [show (dats m ρ 0 c).Φ (Fin.last cfg0.N) = finish c from rfl, scopedRest0_eq, ownSems_eq, unscopedSems_eq, xfers_eq]
  unfold finish
  iintro ⟨Hb, Hx⟩
  isplitl [Hb]
  · iexact Hb
  isplitl [Hx]
  · iexact Hx
  · iempintro

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by fin_cases w <;> fin_cases s <;> decide)
    · show (levAts L lv : sProp 𝕄) ⊢ MayWait (c : Thread nD τ) _ () 0
      rw [MayWait_zero]
      iintro -
      iempintro

/-! ## The run -/

/-- The final contents of a window's array on device `c`. -/
def final (c : Dev nD) (w : Fin cfg0.W) : Buf (Elt F) ((cfg0.win w).arr.view.loc (c : Thread nD τ)) := (dats m ρ 0 c).arrAt w cfg0.N

set_option maxRecDepth 8000 in
theorem run_windows : θ_run defs (onTc (τ := τ) (main (F := F))) (s₀ m ρ)
    (fun r => (∀ (c : Dev nD) (w : Fin cfg0.W), r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := dues₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := setup m)
    (hA := fun _ _ => rfl) (hpf := fun _ k => k.elim0)
    (X := start m) (Y := fun c => unscopedSems0 c) (Z := fun _ => iprop(emp))
    (hX := start_intro m ρ) (hin := start_enter m ρ) (hout := finish_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument is as it was, -/
theorem final_arg (c : Dev nD) : final m ρ c (0 : Fin 2) = m ((c : Thread nD τ).loc main_arg0) :=
  (dats (F := F) m ρ 0 c).arrAt_in (0 : Fin 2) rfl _

omit [FloatOps F] in
/-- The one block of the argument is the whole of it, -/
theorem read_arg (f : (main_arg0 : Ref sig .tc).ty.Contents (Elt F)) : (win0_0.blk t0_0).view.read (Elt F) f = f :=
  Memref.read_access_unit_zero (Elt F) main_arg0 (off := fun a => win0_0.index t0_0 a * main_arg0.ty.shape.size a)
    (funext fun a => by fin_cases a <;> decide) (fun a => by fin_cases a <;> decide) f
omit [FloatOps F] in
/-- and so it is of the result. -/
theorem read_result (f : (main_v1 : Ref sig .tc).ty.Contents (Elt F)) : (win0_1.blk t0_0).view.read (Elt F) f = f :=
  Memref.read_access_unit_zero (Elt F) main_v1 (off := fun a => win0_1.index t0_0 a * main_v1.ty.shape.size a)
    (funext fun a => by fin_cases a <;> decide) (fun a => by fin_cases a <;> decide) f

omit [FloatOps F] in
/-- A device's shard is its argument. -/
theorem shard_eq (c : Dev nD) : shard m c = m ((c : Thread nD τ).loc main_arg0) := by
  unfold shard iblk
  exact read_arg (F := F) (m ((c : Thread nD τ).loc main_arg0))

/-- The result is what the body left in its staging buffer. -/
theorem final_result (c : Dev nD) : final m ρ c (1 : Fin 2) = gathered m c := by
  refine (read_result _).symm.trans ?_
  unfold final
  rw [show cfg0.N = t0_0.val + 1 from rfl, (dats m ρ 0 c).arrAt_succ (1 : Fin 2) t0_0,
    if_pos (show (cfg0.win (1 : Fin 2)).flush t0_0 = true from by decide)]
  exact View.read_write_univ _ _

/-- On every device the kernel ends with its argument unchanged, its result gathered and all counters at zero. -/
theorem run_main : θ_run defs (onTc (τ := τ) (main (F := F))) (s₀ m ρ)
    (fun r => (∀ c : Dev nD, r.2.mem ((c.tc : Thread nD τ).loc main_arg0) = m ((c.tc : Thread nD τ).loc main_arg0)
      ∧ r.2.mem ((c.tc : Thread nD τ).loc main_v1) = gathered m c) ∧ r.2.sem = fun _ => 0) :=
  (θ_run defs _ _).mono (fun _ h => ⟨fun c => ⟨(h.1 c (0 : Fin 2)).trans (final_arg m ρ c), (h.1 c (1 : Fin 2)).trans (final_result m ρ c)⟩, h.2⟩)
    (run_windows m ρ)

end Cert.KernelIdeal.Gather

end
-- ==== Proof.KernelIdeal.Value.lean ====
/-
# The value

Every device's argument being its row block of one whole array, the array gathered on a device is that whole array.
-/
module

public import proofs.«01_k».proof.Proof.KernelIdeal.Run
public import Idealize.ShloMosaic.Lib.Layout

@[expose] public section

-- the layout's side conditions, decided where a block is named, are part of the statements below
set_option backward.proofsInPublic true

noncomputable section

namespace Cert.KernelIdeal.Gather

open Cert.KernelIdeal Cert.KernelIdeal.Gen
open Cert.Gather
open Idealize.ShloMosaic Idealize.ShloMosaic.TcCoe

variable {F : FTy → Type} [FloatOps F]
variable (m : (ℓ : Loc nD τ sig) → Buf (Elt F) ℓ)

/-- The row block of the whole array that the layout gives to a device is numbered by its place along the gathered axis. -/
theorem layout_block : ∀ c : Dev nD, ((Layout.meshBlock (n := nD) [2, 2, 4] ![[2], []] c : (b : Fin 2) → Fin _) 0).val = zc c := by decide
theorem layout_column : ∀ c : Dev nD, ((Layout.meshBlock (n := nD) [2, 2, 4] ![[2], []] c : (b : Fin 2) → Fin _) 1).val = 0 := by decide

variable {W : S8192x512.Idx → Elt F .bf16}
  (blocks : ∀ c : Dev nD, m ((c : Thread nD τ).loc main_arg0) = Layout.blockN ⟨2, ![2048, 512]⟩ ⟨2, ![8192, 512]⟩ (Layout.meshBlock [2, 2, 4] ![[2], []] c) W)

include blocks

/-- An index of the whole array, found in the shard of a device that holds its block. -/
theorem shard_inner (i : S8192x512.Idx) (c : Dev nD) (hc : zc c = blockOf i) : shard m c (inner i) = W i := by
  rw [shard_eq, blocks c, Layout.blockN_apply]
  refine congrArg W (funext fun a => Fin.ext ?_)
  rw [Layout.TilesN.idx_val]
  fin_cases a
  · show ((Layout.meshBlock (n := nD) [2, 2, 4] ![[2], []] c : (b : Fin 2) → Fin _) 0).val * 2048 + (i 0).val % 2048 = (i 0).val
    rw [layout_block, hc]
    unfold blockOf
    omega
  · show ((Layout.meshBlock (n := nD) [2, 2, 4] ![[2], []] c : (b : Fin 2) → Fin _) 1).val * 512 + (i 1).val = (i 1).val
    rw [layout_column]
    omega

/-- The gathered array is the whole array, on every device. -/
theorem gathered_whole (c : Dev nD) : gathered m c = W := by
  funext i
  unfold gathered
  split
  · next h => exact shard_inner m blocks i c h.symm
  · refine shard_inner m blocks i _ ?_
    have hb : blockOf i < 4 := by
      have : (i 0).val < 8192 := (i 0).isLt
      unfold blockOf; omega
    unfold zc dev
    show (8 * halfOf i + 4 * yc c + blockOf i) % 16 % 4 = blockOf i
    omega

end Cert.KernelIdeal.Gather

end
-- ==== Proof.Reference.lean ====
/-
# The reference

The reference returns its argument: no operation runs, and no memory changes.
-/
module

public import proofs.«01_k».proof.Proof.Gen.ReferenceIdeal
public import Idealize.ShloMosaic.Lib.StableHlo.Run

@[expose] public section

noncomputable section

namespace Cert.ReferenceIdeal.Plain

open Cert.ReferenceIdeal Cert.ReferenceIdeal.Gen
open Idealize.ShloMosaic Idealize.ShloMosaic.TcCoe Idealize.ShloMosaic.StableHlo Idealize.SL.Sem

variable {F : FTy → Type} [FloatOps F]

/-- Every run of the reference ends with the argument as it was. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_arg0) = m ((c.tc : Thread nD τ).loc main_arg0) :=
  (θ_run defs _ _).mono (fun _ h c => h c main_arg0)
    (run_seq (by decide) (by decide) defs main (fun _ => []) (fun _ => rfl) (fun _ => trivial) m ρ)

end Cert.ReferenceIdeal.Plain

end
-- ==== Proof.lean ====
/-
# The certificate

The claims about the all-gather kernel, assembled: the two runs of the kernel (`Proof/Kernel/Run.lean` for bit patterns,
`Proof/KernelIdeal/Run.lean` for exact numbers), the value (`Proof/KernelIdeal/Value.lean`), and the run of the reference.
-/
module

public import proofs.«01_k».proof.Defs
public import proofs.«01_k».proof.Proof.Kernel.Run
public import proofs.«01_k».proof.Proof.KernelIdeal.Value
public import proofs.«01_k».proof.Proof.Reference
public import Idealize.ShloMosaic.Adequacy
public import Idealize.ShloMosaic.Init

@[expose] public section

noncomputable section

namespace Cert.Proof

open Idealize.ShloMosaic Idealize.SL.Sem

/-- The kernel as written terminates on all devices, with its argument unchanged and all counters at zero; -/
theorem frame_kernel : Cert.quiescent_Kernel (hKernel := Cert.Kernel.Gen.facts) := by
  intro m ρ _
  exact (θ_run Cert.Kernel.defs _ _).mono (fun _ h => ⟨fun c => (h.1 c).1, h.2⟩) (Cert.Kernel.Gather.run_main (F := Bits) m ρ)

/-- so does the kernel over exact numbers, -/
theorem frame_ideal : Cert.quiescent_KernelIdeal (hKernelIdeal := Cert.KernelIdeal.Gen.facts) := by
  intro m ρ _
  exact (θ_run Cert.KernelIdeal.defs _ _).mono (fun _ h => ⟨fun c => (h.1 c).1, h.2⟩) (Cert.KernelIdeal.Gather.run_main (F := Ideal) m ρ)

/-- and the reference, which has no counters. -/
theorem frame_reference : Cert.quiescent_ReferenceIdeal (hReferenceIdeal := Cert.ReferenceIdeal.Gen.facts) := by
  intro m ρ _
  exact (θ_run Cert.ReferenceIdeal.defs _ _).mono (fun r h => ⟨h, sem_eq_zero_of_no_sems (by decide) r.2⟩) (Cert.ReferenceIdeal.Plain.run_main (F := Ideal) m ρ)

/-- On every device the kernel's result is the whole array, which is what the reference returns. -/
theorem value : Cert.algebraic_KernelIdeal_ReferenceIdeal (hKernelIdeal := Cert.KernelIdeal.Gen.facts) (hReferenceIdeal := Cert.ReferenceIdeal.Gen.facts) := by
  intro m g m' g' _ blocks
  refine ⟨m' (((0 : Dev Cert.ReferenceIdeal.nD).tc : Thread Cert.ReferenceIdeal.nD Cert.ReferenceIdeal.τ).loc Cert.ReferenceIdeal.main_arg0), ?_, ?_⟩
  · exact (θ_run Cert.KernelIdeal.defs _ _).mono
      (fun _ h c => ⟨(h.1 c).2.trans (Cert.KernelIdeal.Gather.gathered_whole m blocks c), (h.1 c).1⟩) (Cert.KernelIdeal.Gather.run_main (F := Ideal) m g)
  · exact (θ_run Cert.ReferenceIdeal.defs _ _).mono (fun _ h => ⟨h 0, h 0⟩) (Cert.ReferenceIdeal.Plain.run_main (F := Ideal) m' g')

theorem claim : Cert.Claim :=
  ⟨Cert.Kernel.Gen.facts, Cert.KernelIdeal.Gen.facts, Cert.ReferenceIdeal.Gen.facts, frame_kernel, frame_ideal, frame_reference, trivial, value⟩

end Cert.Proof

end
